-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S2048x512 : Shape := ⟨2, ![2048, 512]⟩
abbrev S4 : Shape := ⟨1, ![4]⟩
abbrev S_ : Shape := ⟨0, ![]⟩
abbrev S1 : Shape := ⟨1, ![1]⟩
abbrev S128x512 : Shape := ⟨2, ![128, 512]⟩
abbrev S64x512 : Shape := ⟨2, ![64, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S2048x512, .f32⟩
  | .local _ .vmem, ⟨0, _⟩ => ⟨S512x512, .f32⟩
  | .local _ .vmem, ⟨1, _⟩ => ⟨S2048x512, .f32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 2 → Bool
  | ⟨0, _⟩ => false
  | ⟨1, _⟩ => true
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 2 58 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32 : BitVec 32 := 512#32
  let v13 : BitVec 32 := Scalar.muli v8 c512_i32
  let v14 : Index := Scalar.indexCast v13
  let c0_3 : Index := 0#32
  ![v14.toNat, 0]
def k0_dev1 (d0 : Dev nD) : Nat :=
  let c0_i32_10 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_4 v2
  let c8_i32_9 : BitVec 32 := 8#32
  let v21 : BitVec 32 := Scalar.muli v17 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v25 : BitVec 32 := Scalar.muli v8 c1_i32_12
  let v26 : BitVec 32 := Scalar.addi v24 v25
  v26.toNat
def k0_dev2 (d0 : Dev nD) : Nat :=
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_14 : BitVec 32 := 8#32
  let v27 : BitVec 32 := Scalar.muli v2 c8_i32_14
  let v28 : BitVec 32 := Scalar.addi c0_i32_15 v27
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_5 v5
  let c4_i32_16 : BitVec 32 := 4#32
  let v29 : BitVec 32 := Scalar.muli v18 c4_i32_16
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v31 : BitVec 32 := Scalar.muli v8 c1_i32_17
  let v32 : BitVec 32 := Scalar.addi v30 v31
  v32.toNat
def k0_dev3 (d0 : Dev nD) : Nat :=
  let c0_i32_20 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_6 v2
  let c8_i32_19 : BitVec 32 := 8#32
  let v33 : BitVec 32 := Scalar.muli v19 c8_i32_19
  let v34 : BitVec 32 := Scalar.addi c0_i32_20 v33
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_7 v5
  let c4_i32_21 : BitVec 32 := 4#32
  let v35 : BitVec 32 := Scalar.muli v20 c4_i32_21
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v37 : BitVec 32 := Scalar.muli v8 c1_i32_22
  let v38 : BitVec 32 := Scalar.addi v36 v37
  v38.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v9 : BitVec 1 := Scalar.cmpi .slt v8 c3_i32
  let v39 : BitVec 32 := Scalar.extui v9
  let c0_i32_23 : BitVec 32 := 0#32
  let v40 : BitVec 1 := Scalar.cmpi .ne v39 c0_i32_23
  v40

def k0_dev4 (d0 : Dev nD) : Nat :=
  let c0_i32_176 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_175 : BitVec 32 := 8#32
  let v266 : BitVec 32 := Scalar.muli v2 c8_i32_175
  let v267 : BitVec 32 := Scalar.addi c0_i32_176 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_177 : BitVec 32 := 4#32
  let v268 : BitVec 32 := Scalar.muli v5 c4_i32_177
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v265 : BitVec 32 := Scalar.addi v8 c1_i32_173
  let c1_i32_178 : BitVec 32 := 1#32
  let v270 : BitVec 32 := Scalar.muli v265 c1_i32_178
  let v271 : BitVec 32 := Scalar.addi v269 v270
  v271.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v41 : BitVec 32 := Scalar.extui v10
  let c0_i32_24 : BitVec 32 := 0#32
  let v42 : BitVec 1 := Scalar.cmpi .ne v41 c0_i32_24
  v42

def k0_dev5 (d0 : Dev nD) : Nat :=
  let c0_i32_176 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_175 : BitVec 32 := 8#32
  let v266 : BitVec 32 := Scalar.muli v2 c8_i32_175
  let v267 : BitVec 32 := Scalar.addi c0_i32_176 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_177 : BitVec 32 := 4#32
  let v268 : BitVec 32 := Scalar.muli v5 c4_i32_177
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v265 : BitVec 32 := Scalar.subi v8 c1_i32_173
  let c1_i32_178 : BitVec 32 := 1#32
  let v270 : BitVec 32 := Scalar.muli v265 c1_i32_178
  let v271 : BitVec 32 := Scalar.addi v269 v270
  v271.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v9 : BitVec 1 := Scalar.cmpi .slt v8 c3_i32
  let c1_i32_27 : BitVec 32 := 1#32
  let v49 : BitVec 32 := Scalar.subi v8 c1_i32_27
  let c1_i32_28 : BitVec 32 := 1#32
  let v50 : BitVec 32 := Scalar.addi v49 c1_i32_28
  let c0_i32_33 : BitVec 32 := 0#32
  let v55 : BitVec 1 := Scalar.cmpi .sge v50 c0_i32_33
  let v56 : BitVec 1 := Scalar.andi v9 v55
  let v57 : BitVec 32 := Scalar.extui v56
  let c0_i32_34 : BitVec 32 := 0#32
  let v58 : BitVec 1 := Scalar.cmpi .ne v57 c0_i32_34
  v58

def k0_off2 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v49 : BitVec 32 := Scalar.subi v8 c1_i32_27
  let c1_i32_28 : BitVec 32 := 1#32
  let v50 : BitVec 32 := Scalar.addi v49 c1_i32_28
  ![v50.toNat]
def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v49 : BitVec 32 := Scalar.subi v8 c1_i32_27
  let c1_i32_28 : BitVec 32 := 1#32
  let v50 : BitVec 32 := Scalar.addi v49 c1_i32_28
  let c512_i32_173 : BitVec 32 := 512#32
  let v265 : BitVec 32 := Scalar.muli v50 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_179 : BitVec 32 := 0#32
  ![v269.toNat, 0]
def k0_dev6 (d0 : Dev nD) : Nat :=
  let c0_i32_176 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_175 : BitVec 32 := 8#32
  let v271 : BitVec 32 := Scalar.muli v2 c8_i32_175
  let v272 : BitVec 32 := Scalar.addi c0_i32_176 v271
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_177 : BitVec 32 := 4#32
  let v273 : BitVec 32 := Scalar.muli v5 c4_i32_177
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v270 : BitVec 32 := Scalar.addi v8 c1_i32_174
  let c1_i32_178 : BitVec 32 := 1#32
  let v275 : BitVec 32 := Scalar.muli v270 c1_i32_178
  let v276 : BitVec 32 := Scalar.addi v274 v275
  v276.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let c1_i32_29 : BitVec 32 := 1#32
  let v51 : BitVec 32 := Scalar.addi v8 c1_i32_29
  let c1_i32_30 : BitVec 32 := 1#32
  let v52 : BitVec 32 := Scalar.subi v51 c1_i32_30
  let c3_i32_35 : BitVec 32 := 3#32
  let v59 : BitVec 1 := Scalar.cmpi .sle v52 c3_i32_35
  let v60 : BitVec 1 := Scalar.andi v10 v59
  let v61 : BitVec 32 := Scalar.extui v60
  let c0_i32_36 : BitVec 32 := 0#32
  let v62 : BitVec 1 := Scalar.cmpi .ne v61 c0_i32_36
  v62

def k0_off4 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v51 : BitVec 32 := Scalar.addi v8 c1_i32_29
  let c1_i32_30 : BitVec 32 := 1#32
  let v52 : BitVec 32 := Scalar.subi v51 c1_i32_30
  ![v52.toNat]
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v51 : BitVec 32 := Scalar.addi v8 c1_i32_29
  let c1_i32_30 : BitVec 32 := 1#32
  let v52 : BitVec 32 := Scalar.subi v51 c1_i32_30
  let c512_i32_173 : BitVec 32 := 512#32
  let v265 : BitVec 32 := Scalar.muli v52 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_178 : BitVec 32 := 0#32
  ![v269.toNat, 0]
def k0_dev7 (d0 : Dev nD) : Nat :=
  let c0_i32_175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_174 : BitVec 32 := 8#32
  let v271 : BitVec 32 := Scalar.muli v2 c8_i32_174
  let v272 : BitVec 32 := Scalar.addi c0_i32_175 v271
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_176 : BitVec 32 := 4#32
  let v273 : BitVec 32 := Scalar.muli v5 c4_i32_176
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v270 : BitVec 32 := Scalar.addi v8 c_m1_i32
  let c1_i32_177 : BitVec 32 := 1#32
  let v275 : BitVec 32 := Scalar.muli v270 c1_i32_177
  let v276 : BitVec 32 := Scalar.addi v274 v275
  v276.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v53 : BitVec 32 := Scalar.subi v8 c1_i32_31
  let c0_i32_37 : BitVec 32 := 0#32
  let v63 : BitVec 1 := Scalar.cmpi .sge v53 c0_i32_37
  let v64 : BitVec 32 := Scalar.extui v63
  let c0_i32_38 : BitVec 32 := 0#32
  let v65 : BitVec 1 := Scalar.cmpi .ne v64 c0_i32_38
  v65

def k0_off6 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v53 : BitVec 32 := Scalar.subi v8 c1_i32_31
  ![v53.toNat]
def k0_off7 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v53 : BitVec 32 := Scalar.subi v8 c1_i32_31
  let c512_i32_173 : BitVec 32 := 512#32
  let v265 : BitVec 32 := Scalar.muli v53 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_179 : BitVec 32 := 0#32
  ![v269.toNat, 0]
def k0_dev8 (d0 : Dev nD) : Nat :=
  let c0_i32_186 : BitVec 32 := 0#32
  let c1_i32_184 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v286 : BitVec 32 := Scalar.subi c1_i32_184 v2
  let c8_i32_185 : BitVec 32 := 8#32
  let v287 : BitVec 32 := Scalar.muli v286 c8_i32_185
  let v288 : BitVec 32 := Scalar.addi c0_i32_186 v287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_187 : BitVec 32 := 4#32
  let v289 : BitVec 32 := Scalar.muli v5 c4_i32_187
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v291 : BitVec 32 := Scalar.muli v8 c1_i32_188
  let v292 : BitVec 32 := Scalar.addi v290 v291
  v292.toNat
def k0_dev9 (d0 : Dev nD) : Nat :=
  let c0_i32_196 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_195 : BitVec 32 := 8#32
  let v305 : BitVec 32 := Scalar.muli v2 c8_i32_195
  let v306 : BitVec 32 := Scalar.addi c0_i32_196 v305
  let c1_i32_194 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v304 : BitVec 32 := Scalar.subi c1_i32_194 v5
  let c4_i32_197 : BitVec 32 := 4#32
  let v307 : BitVec 32 := Scalar.muli v304 c4_i32_197
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v309 : BitVec 32 := Scalar.muli v8 c1_i32_198
  let v310 : BitVec 32 := Scalar.addi v308 v309
  v310.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v54 : BitVec 32 := Scalar.addi v8 c1_i32_32
  let c3_i32_39 : BitVec 32 := 3#32
  let v66 : BitVec 1 := Scalar.cmpi .sle v54 c3_i32_39
  let v67 : BitVec 32 := Scalar.extui v66
  let c0_i32_40 : BitVec 32 := 0#32
  let v68 : BitVec 1 := Scalar.cmpi .ne v67 c0_i32_40
  v68

def k0_off8 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v54 : BitVec 32 := Scalar.addi v8 c1_i32_32
  ![v54.toNat]
def k0_off9 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v54 : BitVec 32 := Scalar.addi v8 c1_i32_32
  let c512_i32_173 : BitVec 32 := 512#32
  let v265 : BitVec 32 := Scalar.muli v54 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_178 : BitVec 32 := 0#32
  ![v269.toNat, 0]
def k0_dev10 (d0 : Dev nD) : Nat :=
  let c0_i32_185 : BitVec 32 := 0#32
  let c1_i32_183 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v286 : BitVec 32 := Scalar.subi c1_i32_183 v2
  let c8_i32_184 : BitVec 32 := 8#32
  let v287 : BitVec 32 := Scalar.muli v286 c8_i32_184
  let v288 : BitVec 32 := Scalar.addi c0_i32_185 v287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_186 : BitVec 32 := 4#32
  let v289 : BitVec 32 := Scalar.muli v5 c4_i32_186
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_187 : BitVec 32 := 1#32
  let v291 : BitVec 32 := Scalar.muli v8 c1_i32_187
  let v292 : BitVec 32 := Scalar.addi v290 v291
  v292.toNat
def k0_dev11 (d0 : Dev nD) : Nat :=
  let c0_i32_195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_194 : BitVec 32 := 8#32
  let v305 : BitVec 32 := Scalar.muli v2 c8_i32_194
  let v306 : BitVec 32 := Scalar.addi c0_i32_195 v305
  let c1_i32_193 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v304 : BitVec 32 := Scalar.subi c1_i32_193 v5
  let c4_i32_196 : BitVec 32 := 4#32
  let v307 : BitVec 32 := Scalar.muli v304 c4_i32_196
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v309 : BitVec 32 := Scalar.muli v8 c1_i32_197
  let v310 : BitVec 32 := Scalar.addi v308 v309
  v310.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v9 : BitVec 1 := Scalar.cmpi .slt v8 c3_i32
  let c2_i32_41 : BitVec 32 := 2#32
  let v69 : BitVec 32 := Scalar.subi v8 c2_i32_41
  let c1_i32_42 : BitVec 32 := 1#32
  let v70 : BitVec 32 := Scalar.addi v69 c1_i32_42
  let c0_i32_47 : BitVec 32 := 0#32
  let v75 : BitVec 1 := Scalar.cmpi .sge v70 c0_i32_47
  let v76 : BitVec 1 := Scalar.andi v9 v75
  let v77 : BitVec 32 := Scalar.extui v76
  let c0_i32_48 : BitVec 32 := 0#32
  let v78 : BitVec 1 := Scalar.cmpi .ne v77 c0_i32_48
  v78

def k0_off10 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_41 : BitVec 32 := 2#32
  let v69 : BitVec 32 := Scalar.subi v8 c2_i32_41
  let c1_i32_42 : BitVec 32 := 1#32
  let v70 : BitVec 32 := Scalar.addi v69 c1_i32_42
  ![v70.toNat]
def k0_off11 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_41 : BitVec 32 := 2#32
  let v69 : BitVec 32 := Scalar.subi v8 c2_i32_41
  let c1_i32_42 : BitVec 32 := 1#32
  let v70 : BitVec 32 := Scalar.addi v69 c1_i32_42
  let c512_i32_173 : BitVec 32 := 512#32
  let v265 : BitVec 32 := Scalar.muli v70 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_179 : BitVec 32 := 0#32
  ![v269.toNat, 0]
def k0_dev12 (d0 : Dev nD) : Nat :=
  let c0_i32_176 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_175 : BitVec 32 := 8#32
  let v271 : BitVec 32 := Scalar.muli v2 c8_i32_175
  let v272 : BitVec 32 := Scalar.addi c0_i32_176 v271
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_177 : BitVec 32 := 4#32
  let v273 : BitVec 32 := Scalar.muli v5 c4_i32_177
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v270 : BitVec 32 := Scalar.addi v8 c1_i32_174
  let c1_i32_178 : BitVec 32 := 1#32
  let v275 : BitVec 32 := Scalar.muli v270 c1_i32_178
  let v276 : BitVec 32 := Scalar.addi v274 v275
  v276.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let c2_i32_43 : BitVec 32 := 2#32
  let v71 : BitVec 32 := Scalar.addi v8 c2_i32_43
  let c1_i32_44 : BitVec 32 := 1#32
  let v72 : BitVec 32 := Scalar.subi v71 c1_i32_44
  let c3_i32_49 : BitVec 32 := 3#32
  let v79 : BitVec 1 := Scalar.cmpi .sle v72 c3_i32_49
  let v80 : BitVec 1 := Scalar.andi v10 v79
  let v81 : BitVec 32 := Scalar.extui v80
  let c0_i32_50 : BitVec 32 := 0#32
  let v82 : BitVec 1 := Scalar.cmpi .ne v81 c0_i32_50
  v82

def k0_off12 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_43 : BitVec 32 := 2#32
  let v71 : BitVec 32 := Scalar.addi v8 c2_i32_43
  let c1_i32_44 : BitVec 32 := 1#32
  let v72 : BitVec 32 := Scalar.subi v71 c1_i32_44
  ![v72.toNat]
def k0_off13 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_43 : BitVec 32 := 2#32
  let v71 : BitVec 32 := Scalar.addi v8 c2_i32_43
  let c1_i32_44 : BitVec 32 := 1#32
  let v72 : BitVec 32 := Scalar.subi v71 c1_i32_44
  let c512_i32_173 : BitVec 32 := 512#32
  let v265 : BitVec 32 := Scalar.muli v72 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_178 : BitVec 32 := 0#32
  ![v269.toNat, 0]
def k0_dev13 (d0 : Dev nD) : Nat :=
  let c0_i32_175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_174 : BitVec 32 := 8#32
  let v271 : BitVec 32 := Scalar.muli v2 c8_i32_174
  let v272 : BitVec 32 := Scalar.addi c0_i32_175 v271
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_176 : BitVec 32 := 4#32
  let v273 : BitVec 32 := Scalar.muli v5 c4_i32_176
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v270 : BitVec 32 := Scalar.addi v8 c_m1_i32
  let c1_i32_177 : BitVec 32 := 1#32
  let v275 : BitVec 32 := Scalar.muli v270 c1_i32_177
  let v276 : BitVec 32 := Scalar.addi v274 v275
  v276.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_45 : BitVec 32 := 2#32
  let v73 : BitVec 32 := Scalar.subi v8 c2_i32_45
  let c0_i32_51 : BitVec 32 := 0#32
  let v83 : BitVec 1 := Scalar.cmpi .sge v73 c0_i32_51
  let v84 : BitVec 32 := Scalar.extui v83
  let c0_i32_52 : BitVec 32 := 0#32
  let v85 : BitVec 1 := Scalar.cmpi .ne v84 c0_i32_52
  v85

def k0_off14 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_45 : BitVec 32 := 2#32
  let v73 : BitVec 32 := Scalar.subi v8 c2_i32_45
  ![v73.toNat]
def k0_off15 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_45 : BitVec 32 := 2#32
  let v73 : BitVec 32 := Scalar.subi v8 c2_i32_45
  let c512_i32_173 : BitVec 32 := 512#32
  let v265 : BitVec 32 := Scalar.muli v73 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_179 : BitVec 32 := 0#32
  ![v269.toNat, 0]
def k0_dev14 (d0 : Dev nD) : Nat :=
  let c0_i32_186 : BitVec 32 := 0#32
  let c1_i32_184 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v286 : BitVec 32 := Scalar.subi c1_i32_184 v2
  let c8_i32_185 : BitVec 32 := 8#32
  let v287 : BitVec 32 := Scalar.muli v286 c8_i32_185
  let v288 : BitVec 32 := Scalar.addi c0_i32_186 v287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_187 : BitVec 32 := 4#32
  let v289 : BitVec 32 := Scalar.muli v5 c4_i32_187
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v291 : BitVec 32 := Scalar.muli v8 c1_i32_188
  let v292 : BitVec 32 := Scalar.addi v290 v291
  v292.toNat
def k0_dev15 (d0 : Dev nD) : Nat :=
  let c0_i32_196 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_195 : BitVec 32 := 8#32
  let v305 : BitVec 32 := Scalar.muli v2 c8_i32_195
  let v306 : BitVec 32 := Scalar.addi c0_i32_196 v305
  let c1_i32_194 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v304 : BitVec 32 := Scalar.subi c1_i32_194 v5
  let c4_i32_197 : BitVec 32 := 4#32
  let v307 : BitVec 32 := Scalar.muli v304 c4_i32_197
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v309 : BitVec 32 := Scalar.muli v8 c1_i32_198
  let v310 : BitVec 32 := Scalar.addi v308 v309
  v310.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_46 : BitVec 32 := 2#32
  let v74 : BitVec 32 := Scalar.addi v8 c2_i32_46
  let c3_i32_53 : BitVec 32 := 3#32
  let v86 : BitVec 1 := Scalar.cmpi .sle v74 c3_i32_53
  let v87 : BitVec 32 := Scalar.extui v86
  let c0_i32_54 : BitVec 32 := 0#32
  let v88 : BitVec 1 := Scalar.cmpi .ne v87 c0_i32_54
  v88

def k0_off16 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_46 : BitVec 32 := 2#32
  let v74 : BitVec 32 := Scalar.addi v8 c2_i32_46
  ![v74.toNat]
def k0_off17 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_46 : BitVec 32 := 2#32
  let v74 : BitVec 32 := Scalar.addi v8 c2_i32_46
  let c512_i32_173 : BitVec 32 := 512#32
  let v265 : BitVec 32 := Scalar.muli v74 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_178 : BitVec 32 := 0#32
  ![v269.toNat, 0]
def k0_dev16 (d0 : Dev nD) : Nat :=
  let c0_i32_185 : BitVec 32 := 0#32
  let c1_i32_183 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v286 : BitVec 32 := Scalar.subi c1_i32_183 v2
  let c8_i32_184 : BitVec 32 := 8#32
  let v287 : BitVec 32 := Scalar.muli v286 c8_i32_184
  let v288 : BitVec 32 := Scalar.addi c0_i32_185 v287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_186 : BitVec 32 := 4#32
  let v289 : BitVec 32 := Scalar.muli v5 c4_i32_186
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_187 : BitVec 32 := 1#32
  let v291 : BitVec 32 := Scalar.muli v8 c1_i32_187
  let v292 : BitVec 32 := Scalar.addi v290 v291
  v292.toNat
def k0_dev17 (d0 : Dev nD) : Nat :=
  let c0_i32_195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_194 : BitVec 32 := 8#32
  let v305 : BitVec 32 := Scalar.muli v2 c8_i32_194
  let v306 : BitVec 32 := Scalar.addi c0_i32_195 v305
  let c1_i32_193 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v304 : BitVec 32 := Scalar.subi c1_i32_193 v5
  let c4_i32_196 : BitVec 32 := 4#32
  let v307 : BitVec 32 := Scalar.muli v304 c4_i32_196
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v309 : BitVec 32 := Scalar.muli v8 c1_i32_197
  let v310 : BitVec 32 := Scalar.addi v308 v309
  v310.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v9 : BitVec 1 := Scalar.cmpi .slt v8 c3_i32
  let c3_i32_55 : BitVec 32 := 3#32
  let v89 : BitVec 32 := Scalar.subi v8 c3_i32_55
  let c1_i32_56 : BitVec 32 := 1#32
  let v90 : BitVec 32 := Scalar.addi v89 c1_i32_56
  let c0_i32_61 : BitVec 32 := 0#32
  let v95 : BitVec 1 := Scalar.cmpi .sge v90 c0_i32_61
  let v96 : BitVec 1 := Scalar.andi v9 v95
  let v97 : BitVec 32 := Scalar.extui v96
  let c0_i32_62 : BitVec 32 := 0#32
  let v98 : BitVec 1 := Scalar.cmpi .ne v97 c0_i32_62
  v98

def k0_off18 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_55 : BitVec 32 := 3#32
  let v89 : BitVec 32 := Scalar.subi v8 c3_i32_55
  let c1_i32_56 : BitVec 32 := 1#32
  let v90 : BitVec 32 := Scalar.addi v89 c1_i32_56
  ![v90.toNat]
def k0_off19 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_55 : BitVec 32 := 3#32
  let v89 : BitVec 32 := Scalar.subi v8 c3_i32_55
  let c1_i32_56 : BitVec 32 := 1#32
  let v90 : BitVec 32 := Scalar.addi v89 c1_i32_56
  let c512_i32_173 : BitVec 32 := 512#32
  let v265 : BitVec 32 := Scalar.muli v90 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_179 : BitVec 32 := 0#32
  ![v269.toNat, 0]
def k0_dev18 (d0 : Dev nD) : Nat :=
  let c0_i32_176 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_175 : BitVec 32 := 8#32
  let v271 : BitVec 32 := Scalar.muli v2 c8_i32_175
  let v272 : BitVec 32 := Scalar.addi c0_i32_176 v271
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_177 : BitVec 32 := 4#32
  let v273 : BitVec 32 := Scalar.muli v5 c4_i32_177
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v270 : BitVec 32 := Scalar.addi v8 c1_i32_174
  let c1_i32_178 : BitVec 32 := 1#32
  let v275 : BitVec 32 := Scalar.muli v270 c1_i32_178
  let v276 : BitVec 32 := Scalar.addi v274 v275
  v276.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let c3_i32_57 : BitVec 32 := 3#32
  let v91 : BitVec 32 := Scalar.addi v8 c3_i32_57
  let c1_i32_58 : BitVec 32 := 1#32
  let v92 : BitVec 32 := Scalar.subi v91 c1_i32_58
  let c3_i32_63 : BitVec 32 := 3#32
  let v99 : BitVec 1 := Scalar.cmpi .sle v92 c3_i32_63
  let v100 : BitVec 1 := Scalar.andi v10 v99
  let v101 : BitVec 32 := Scalar.extui v100
  let c0_i32_64 : BitVec 32 := 0#32
  let v102 : BitVec 1 := Scalar.cmpi .ne v101 c0_i32_64
  v102

def k0_off20 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_57 : BitVec 32 := 3#32
  let v91 : BitVec 32 := Scalar.addi v8 c3_i32_57
  let c1_i32_58 : BitVec 32 := 1#32
  let v92 : BitVec 32 := Scalar.subi v91 c1_i32_58
  ![v92.toNat]
def k0_off21 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_57 : BitVec 32 := 3#32
  let v91 : BitVec 32 := Scalar.addi v8 c3_i32_57
  let c1_i32_58 : BitVec 32 := 1#32
  let v92 : BitVec 32 := Scalar.subi v91 c1_i32_58
  let c512_i32_173 : BitVec 32 := 512#32
  let v265 : BitVec 32 := Scalar.muli v92 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_178 : BitVec 32 := 0#32
  ![v269.toNat, 0]
def k0_dev19 (d0 : Dev nD) : Nat :=
  let c0_i32_175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_174 : BitVec 32 := 8#32
  let v271 : BitVec 32 := Scalar.muli v2 c8_i32_174
  let v272 : BitVec 32 := Scalar.addi c0_i32_175 v271
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_176 : BitVec 32 := 4#32
  let v273 : BitVec 32 := Scalar.muli v5 c4_i32_176
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v270 : BitVec 32 := Scalar.addi v8 c_m1_i32
  let c1_i32_177 : BitVec 32 := 1#32
  let v275 : BitVec 32 := Scalar.muli v270 c1_i32_177
  let v276 : BitVec 32 := Scalar.addi v274 v275
  v276.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_59 : BitVec 32 := 3#32
  let v93 : BitVec 32 := Scalar.subi v8 c3_i32_59
  let c0_i32_65 : BitVec 32 := 0#32
  let v103 : BitVec 1 := Scalar.cmpi .sge v93 c0_i32_65
  let v104 : BitVec 32 := Scalar.extui v103
  let c0_i32_66 : BitVec 32 := 0#32
  let v105 : BitVec 1 := Scalar.cmpi .ne v104 c0_i32_66
  v105

def k0_off22 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_59 : BitVec 32 := 3#32
  let v93 : BitVec 32 := Scalar.subi v8 c3_i32_59
  ![v93.toNat]
def k0_off23 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_59 : BitVec 32 := 3#32
  let v93 : BitVec 32 := Scalar.subi v8 c3_i32_59
  let c512_i32_173 : BitVec 32 := 512#32
  let v265 : BitVec 32 := Scalar.muli v93 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_179 : BitVec 32 := 0#32
  ![v269.toNat, 0]
def k0_dev20 (d0 : Dev nD) : Nat :=
  let c0_i32_186 : BitVec 32 := 0#32
  let c1_i32_184 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v286 : BitVec 32 := Scalar.subi c1_i32_184 v2
  let c8_i32_185 : BitVec 32 := 8#32
  let v287 : BitVec 32 := Scalar.muli v286 c8_i32_185
  let v288 : BitVec 32 := Scalar.addi c0_i32_186 v287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_187 : BitVec 32 := 4#32
  let v289 : BitVec 32 := Scalar.muli v5 c4_i32_187
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v291 : BitVec 32 := Scalar.muli v8 c1_i32_188
  let v292 : BitVec 32 := Scalar.addi v290 v291
  v292.toNat
def k0_dev21 (d0 : Dev nD) : Nat :=
  let c0_i32_196 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_195 : BitVec 32 := 8#32
  let v305 : BitVec 32 := Scalar.muli v2 c8_i32_195
  let v306 : BitVec 32 := Scalar.addi c0_i32_196 v305
  let c1_i32_194 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v304 : BitVec 32 := Scalar.subi c1_i32_194 v5
  let c4_i32_197 : BitVec 32 := 4#32
  let v307 : BitVec 32 := Scalar.muli v304 c4_i32_197
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v309 : BitVec 32 := Scalar.muli v8 c1_i32_198
  let v310 : BitVec 32 := Scalar.addi v308 v309
  v310.toNat
def k0_dev22 (d0 : Dev nD) : Nat :=
  let c0_i32_207 : BitVec 32 := 0#32
  let c1_i32_204 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v322 : BitVec 32 := Scalar.subi c1_i32_204 v2
  let c8_i32_206 : BitVec 32 := 8#32
  let v324 : BitVec 32 := Scalar.muli v322 c8_i32_206
  let v325 : BitVec 32 := Scalar.addi c0_i32_207 v324
  let c1_i32_205 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v323 : BitVec 32 := Scalar.subi c1_i32_205 v5
  let c4_i32_208 : BitVec 32 := 4#32
  let v326 : BitVec 32 := Scalar.muli v323 c4_i32_208
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_209 : BitVec 32 := 1#32
  let v328 : BitVec 32 := Scalar.muli v8 c1_i32_209
  let v329 : BitVec 32 := Scalar.addi v327 v328
  v329.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_60 : BitVec 32 := 3#32
  let v94 : BitVec 32 := Scalar.addi v8 c3_i32_60
  let c3_i32_67 : BitVec 32 := 3#32
  let v106 : BitVec 1 := Scalar.cmpi .sle v94 c3_i32_67
  let v107 : BitVec 32 := Scalar.extui v106
  let c0_i32_68 : BitVec 32 := 0#32
  let v108 : BitVec 1 := Scalar.cmpi .ne v107 c0_i32_68
  v108

def k0_off24 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_60 : BitVec 32 := 3#32
  let v94 : BitVec 32 := Scalar.addi v8 c3_i32_60
  ![v94.toNat]
def k0_off25 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_60 : BitVec 32 := 3#32
  let v94 : BitVec 32 := Scalar.addi v8 c3_i32_60
  let c512_i32_173 : BitVec 32 := 512#32
  let v265 : BitVec 32 := Scalar.muli v94 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_178 : BitVec 32 := 0#32
  ![v269.toNat, 0]
def k0_dev23 (d0 : Dev nD) : Nat :=
  let c0_i32_185 : BitVec 32 := 0#32
  let c1_i32_183 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v286 : BitVec 32 := Scalar.subi c1_i32_183 v2
  let c8_i32_184 : BitVec 32 := 8#32
  let v287 : BitVec 32 := Scalar.muli v286 c8_i32_184
  let v288 : BitVec 32 := Scalar.addi c0_i32_185 v287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_186 : BitVec 32 := 4#32
  let v289 : BitVec 32 := Scalar.muli v5 c4_i32_186
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_187 : BitVec 32 := 1#32
  let v291 : BitVec 32 := Scalar.muli v8 c1_i32_187
  let v292 : BitVec 32 := Scalar.addi v290 v291
  v292.toNat
def k0_dev24 (d0 : Dev nD) : Nat :=
  let c0_i32_195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_194 : BitVec 32 := 8#32
  let v305 : BitVec 32 := Scalar.muli v2 c8_i32_194
  let v306 : BitVec 32 := Scalar.addi c0_i32_195 v305
  let c1_i32_193 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v304 : BitVec 32 := Scalar.subi c1_i32_193 v5
  let c4_i32_196 : BitVec 32 := 4#32
  let v307 : BitVec 32 := Scalar.muli v304 c4_i32_196
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v309 : BitVec 32 := Scalar.muli v8 c1_i32_197
  let v310 : BitVec 32 := Scalar.addi v308 v309
  v310.toNat
def k0_dev25 (d0 : Dev nD) : Nat :=
  let c0_i32_206 : BitVec 32 := 0#32
  let c1_i32_203 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v322 : BitVec 32 := Scalar.subi c1_i32_203 v2
  let c8_i32_205 : BitVec 32 := 8#32
  let v324 : BitVec 32 := Scalar.muli v322 c8_i32_205
  let v325 : BitVec 32 := Scalar.addi c0_i32_206 v324
  let c1_i32_204 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v323 : BitVec 32 := Scalar.subi c1_i32_204 v5
  let c4_i32_207 : BitVec 32 := 4#32
  let v326 : BitVec 32 := Scalar.muli v323 c4_i32_207
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v328 : BitVec 32 := Scalar.muli v8 c1_i32_208
  let v329 : BitVec 32 := Scalar.addi v327 v328
  v329.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v109 : BitVec 32 := Scalar.subi v8 c1_i32_69
  let c0_i32_71 : BitVec 32 := 0#32
  let v111 : BitVec 1 := Scalar.cmpi .sge v109 c0_i32_71
  let c3_i32_72 : BitVec 32 := 3#32
  let v112 : BitVec 1 := Scalar.cmpi .sle v109 c3_i32_72
  let v113 : BitVec 1 := Scalar.andi v111 v112
  let v114 : BitVec 32 := Scalar.extui v113
  let c0_i32_73 : BitVec 32 := 0#32
  let v115 : BitVec 1 := Scalar.cmpi .ne v114 c0_i32_73
  v115

def k0_off26 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v109 : BitVec 32 := Scalar.subi v8 c1_i32_69
  ![v109.toNat]
def k0_off27 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v109 : BitVec 32 := Scalar.subi v8 c1_i32_69
  let c512_i32_173 : BitVec 32 := 512#32
  let v265 : BitVec 32 := Scalar.muli v109 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_179 : BitVec 32 := 0#32
  ![v269.toNat, 0]
def k0_off28 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v109 : BitVec 32 := Scalar.subi v8 c1_i32_69
  let c512_i32_182 : BitVec 32 := 512#32
  let v282 : BitVec 32 := Scalar.muli v109 c512_i32_182
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_183 : BitVec 32 := 256#32
  let v283 : BitVec 32 := Scalar.muli v2 c256_i32_183
  let v284 : BitVec 32 := Scalar.addi v282 v283
  let c1_i32_181 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v281 : BitVec 32 := Scalar.subi c1_i32_181 v5
  let c128_i32_184 : BitVec 32 := 128#32
  let v285 : BitVec 32 := Scalar.muli v281 c128_i32_184
  let v286 : BitVec 32 := Scalar.addi v284 v285
  let c0_i32_190 : BitVec 32 := 0#32
  ![v286.toNat, 0]
def k0_dev26 (d0 : Dev nD) : Nat :=
  let c0_i32_187 : BitVec 32 := 0#32
  let c1_i32_185 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v287 : BitVec 32 := Scalar.subi c1_i32_185 v2
  let c8_i32_186 : BitVec 32 := 8#32
  let v288 : BitVec 32 := Scalar.muli v287 c8_i32_186
  let v289 : BitVec 32 := Scalar.addi c0_i32_187 v288
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_188 : BitVec 32 := 4#32
  let v290 : BitVec 32 := Scalar.muli v5 c4_i32_188
  let v291 : BitVec 32 := Scalar.addi v289 v290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_189 : BitVec 32 := 1#32
  let v292 : BitVec 32 := Scalar.muli v8 c1_i32_189
  let v293 : BitVec 32 := Scalar.addi v291 v292
  v293.toNat
def k0_off29 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v109 : BitVec 32 := Scalar.subi v8 c1_i32_69
  let c512_i32_203 : BitVec 32 := 512#32
  let v317 : BitVec 32 := Scalar.muli v109 c512_i32_203
  let c1_i32_202 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v316 : BitVec 32 := Scalar.subi c1_i32_202 v2
  let c256_i32_204 : BitVec 32 := 256#32
  let v318 : BitVec 32 := Scalar.muli v316 c256_i32_204
  let v319 : BitVec 32 := Scalar.addi v317 v318
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_205 : BitVec 32 := 128#32
  let v320 : BitVec 32 := Scalar.muli v5 c128_i32_205
  let v321 : BitVec 32 := Scalar.addi v319 v320
  let c64_i32 : BitVec 32 := 64#32
  let v322 : BitVec 32 := Scalar.addi v321 c64_i32
  let c0_i32_211 : BitVec 32 := 0#32
  ![v322.toNat, 0]
def k0_dev27 (d0 : Dev nD) : Nat :=
  let c0_i32_208 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_207 : BitVec 32 := 8#32
  let v324 : BitVec 32 := Scalar.muli v2 c8_i32_207
  let v325 : BitVec 32 := Scalar.addi c0_i32_208 v324
  let c1_i32_206 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v323 : BitVec 32 := Scalar.subi c1_i32_206 v5
  let c4_i32_209 : BitVec 32 := 4#32
  let v326 : BitVec 32 := Scalar.muli v323 c4_i32_209
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210 : BitVec 32 := 1#32
  let v328 : BitVec 32 := Scalar.muli v8 c1_i32_210
  let v329 : BitVec 32 := Scalar.addi v327 v328
  v329.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v110 : BitVec 32 := Scalar.addi v8 c1_i32_70
  let c0_i32_74 : BitVec 32 := 0#32
  let v116 : BitVec 1 := Scalar.cmpi .sge v110 c0_i32_74
  let c3_i32_75 : BitVec 32 := 3#32
  let v117 : BitVec 1 := Scalar.cmpi .sle v110 c3_i32_75
  let v118 : BitVec 1 := Scalar.andi v116 v117
  let v119 : BitVec 32 := Scalar.extui v118
  let c0_i32_76 : BitVec 32 := 0#32
  let v120 : BitVec 1 := Scalar.cmpi .ne v119 c0_i32_76
  v120

def k0_off30 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v110 : BitVec 32 := Scalar.addi v8 c1_i32_70
  ![v110.toNat]
def k0_off31 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v110 : BitVec 32 := Scalar.addi v8 c1_i32_70
  let c512_i32_173 : BitVec 32 := 512#32
  let v265 : BitVec 32 := Scalar.muli v110 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_179 : BitVec 32 := 0#32
  ![v269.toNat, 0]
def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v110 : BitVec 32 := Scalar.addi v8 c1_i32_70
  let c512_i32_182 : BitVec 32 := 512#32
  let v282 : BitVec 32 := Scalar.muli v110 c512_i32_182
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_183 : BitVec 32 := 256#32
  let v283 : BitVec 32 := Scalar.muli v2 c256_i32_183
  let v284 : BitVec 32 := Scalar.addi v282 v283
  let c1_i32_181 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v281 : BitVec 32 := Scalar.subi c1_i32_181 v5
  let c128_i32_184 : BitVec 32 := 128#32
  let v285 : BitVec 32 := Scalar.muli v281 c128_i32_184
  let v286 : BitVec 32 := Scalar.addi v284 v285
  let c0_i32_190 : BitVec 32 := 0#32
  ![v286.toNat, 0]
def k0_dev28 (d0 : Dev nD) : Nat :=
  let c0_i32_187 : BitVec 32 := 0#32
  let c1_i32_185 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v287 : BitVec 32 := Scalar.subi c1_i32_185 v2
  let c8_i32_186 : BitVec 32 := 8#32
  let v288 : BitVec 32 := Scalar.muli v287 c8_i32_186
  let v289 : BitVec 32 := Scalar.addi c0_i32_187 v288
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_188 : BitVec 32 := 4#32
  let v290 : BitVec 32 := Scalar.muli v5 c4_i32_188
  let v291 : BitVec 32 := Scalar.addi v289 v290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_189 : BitVec 32 := 1#32
  let v292 : BitVec 32 := Scalar.muli v8 c1_i32_189
  let v293 : BitVec 32 := Scalar.addi v291 v292
  v293.toNat
def k0_off33 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v110 : BitVec 32 := Scalar.addi v8 c1_i32_70
  let c512_i32_203 : BitVec 32 := 512#32
  let v317 : BitVec 32 := Scalar.muli v110 c512_i32_203
  let c1_i32_202 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v316 : BitVec 32 := Scalar.subi c1_i32_202 v2
  let c256_i32_204 : BitVec 32 := 256#32
  let v318 : BitVec 32 := Scalar.muli v316 c256_i32_204
  let v319 : BitVec 32 := Scalar.addi v317 v318
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_205 : BitVec 32 := 128#32
  let v320 : BitVec 32 := Scalar.muli v5 c128_i32_205
  let v321 : BitVec 32 := Scalar.addi v319 v320
  let c64_i32 : BitVec 32 := 64#32
  let v322 : BitVec 32 := Scalar.addi v321 c64_i32
  let c0_i32_211 : BitVec 32 := 0#32
  ![v322.toNat, 0]
def k0_dev29 (d0 : Dev nD) : Nat :=
  let c0_i32_208 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_207 : BitVec 32 := 8#32
  let v324 : BitVec 32 := Scalar.muli v2 c8_i32_207
  let v325 : BitVec 32 := Scalar.addi c0_i32_208 v324
  let c1_i32_206 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v323 : BitVec 32 := Scalar.subi c1_i32_206 v5
  let c4_i32_209 : BitVec 32 := 4#32
  let v326 : BitVec 32 := Scalar.muli v323 c4_i32_209
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210 : BitVec 32 := 1#32
  let v328 : BitVec 32 := Scalar.muli v8 c1_i32_210
  let v329 : BitVec 32 := Scalar.addi v327 v328
  v329.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_77 : BitVec 32 := 2#32
  let v121 : BitVec 32 := Scalar.subi v8 c2_i32_77
  let c0_i32_79 : BitVec 32 := 0#32
  let v123 : BitVec 1 := Scalar.cmpi .sge v121 c0_i32_79
  let c3_i32_80 : BitVec 32 := 3#32
  let v124 : BitVec 1 := Scalar.cmpi .sle v121 c3_i32_80
  let v125 : BitVec 1 := Scalar.andi v123 v124
  let v126 : BitVec 32 := Scalar.extui v125
  let c0_i32_81 : BitVec 32 := 0#32
  let v127 : BitVec 1 := Scalar.cmpi .ne v126 c0_i32_81
  v127

def k0_off34 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_77 : BitVec 32 := 2#32
  let v121 : BitVec 32 := Scalar.subi v8 c2_i32_77
  ![v121.toNat]
def k0_off35 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_77 : BitVec 32 := 2#32
  let v121 : BitVec 32 := Scalar.subi v8 c2_i32_77
  let c512_i32_173 : BitVec 32 := 512#32
  let v265 : BitVec 32 := Scalar.muli v121 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_179 : BitVec 32 := 0#32
  ![v269.toNat, 0]
def k0_off36 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_77 : BitVec 32 := 2#32
  let v121 : BitVec 32 := Scalar.subi v8 c2_i32_77
  let c512_i32_182 : BitVec 32 := 512#32
  let v282 : BitVec 32 := Scalar.muli v121 c512_i32_182
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_183 : BitVec 32 := 256#32
  let v283 : BitVec 32 := Scalar.muli v2 c256_i32_183
  let v284 : BitVec 32 := Scalar.addi v282 v283
  let c1_i32_181 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v281 : BitVec 32 := Scalar.subi c1_i32_181 v5
  let c128_i32_184 : BitVec 32 := 128#32
  let v285 : BitVec 32 := Scalar.muli v281 c128_i32_184
  let v286 : BitVec 32 := Scalar.addi v284 v285
  let c0_i32_190 : BitVec 32 := 0#32
  ![v286.toNat, 0]
def k0_dev30 (d0 : Dev nD) : Nat :=
  let c0_i32_187 : BitVec 32 := 0#32
  let c1_i32_185 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v287 : BitVec 32 := Scalar.subi c1_i32_185 v2
  let c8_i32_186 : BitVec 32 := 8#32
  let v288 : BitVec 32 := Scalar.muli v287 c8_i32_186
  let v289 : BitVec 32 := Scalar.addi c0_i32_187 v288
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_188 : BitVec 32 := 4#32
  let v290 : BitVec 32 := Scalar.muli v5 c4_i32_188
  let v291 : BitVec 32 := Scalar.addi v289 v290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_189 : BitVec 32 := 1#32
  let v292 : BitVec 32 := Scalar.muli v8 c1_i32_189
  let v293 : BitVec 32 := Scalar.addi v291 v292
  v293.toNat
def k0_off37 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_77 : BitVec 32 := 2#32
  let v121 : BitVec 32 := Scalar.subi v8 c2_i32_77
  let c512_i32_203 : BitVec 32 := 512#32
  let v317 : BitVec 32 := Scalar.muli v121 c512_i32_203
  let c1_i32_202 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v316 : BitVec 32 := Scalar.subi c1_i32_202 v2
  let c256_i32_204 : BitVec 32 := 256#32
  let v318 : BitVec 32 := Scalar.muli v316 c256_i32_204
  let v319 : BitVec 32 := Scalar.addi v317 v318
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_205 : BitVec 32 := 128#32
  let v320 : BitVec 32 := Scalar.muli v5 c128_i32_205
  let v321 : BitVec 32 := Scalar.addi v319 v320
  let c64_i32 : BitVec 32 := 64#32
  let v322 : BitVec 32 := Scalar.addi v321 c64_i32
  let c0_i32_211 : BitVec 32 := 0#32
  ![v322.toNat, 0]
def k0_dev31 (d0 : Dev nD) : Nat :=
  let c0_i32_208 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_207 : BitVec 32 := 8#32
  let v324 : BitVec 32 := Scalar.muli v2 c8_i32_207
  let v325 : BitVec 32 := Scalar.addi c0_i32_208 v324
  let c1_i32_206 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v323 : BitVec 32 := Scalar.subi c1_i32_206 v5
  let c4_i32_209 : BitVec 32 := 4#32
  let v326 : BitVec 32 := Scalar.muli v323 c4_i32_209
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210 : BitVec 32 := 1#32
  let v328 : BitVec 32 := Scalar.muli v8 c1_i32_210
  let v329 : BitVec 32 := Scalar.addi v327 v328
  v329.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_78 : BitVec 32 := 2#32
  let v122 : BitVec 32 := Scalar.addi v8 c2_i32_78
  let c0_i32_82 : BitVec 32 := 0#32
  let v128 : BitVec 1 := Scalar.cmpi .sge v122 c0_i32_82
  let c3_i32_83 : BitVec 32 := 3#32
  let v129 : BitVec 1 := Scalar.cmpi .sle v122 c3_i32_83
  let v130 : BitVec 1 := Scalar.andi v128 v129
  let v131 : BitVec 32 := Scalar.extui v130
  let c0_i32_84 : BitVec 32 := 0#32
  let v132 : BitVec 1 := Scalar.cmpi .ne v131 c0_i32_84
  v132

def k0_off38 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_78 : BitVec 32 := 2#32
  let v122 : BitVec 32 := Scalar.addi v8 c2_i32_78
  ![v122.toNat]
def k0_off39 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_78 : BitVec 32 := 2#32
  let v122 : BitVec 32 := Scalar.addi v8 c2_i32_78
  let c512_i32_173 : BitVec 32 := 512#32
  let v265 : BitVec 32 := Scalar.muli v122 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_179 : BitVec 32 := 0#32
  ![v269.toNat, 0]
def k0_off40 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_78 : BitVec 32 := 2#32
  let v122 : BitVec 32 := Scalar.addi v8 c2_i32_78
  let c512_i32_182 : BitVec 32 := 512#32
  let v282 : BitVec 32 := Scalar.muli v122 c512_i32_182
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_183 : BitVec 32 := 256#32
  let v283 : BitVec 32 := Scalar.muli v2 c256_i32_183
  let v284 : BitVec 32 := Scalar.addi v282 v283
  let c1_i32_181 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v281 : BitVec 32 := Scalar.subi c1_i32_181 v5
  let c128_i32_184 : BitVec 32 := 128#32
  let v285 : BitVec 32 := Scalar.muli v281 c128_i32_184
  let v286 : BitVec 32 := Scalar.addi v284 v285
  let c0_i32_190 : BitVec 32 := 0#32
  ![v286.toNat, 0]
def k0_dev32 (d0 : Dev nD) : Nat :=
  let c0_i32_187 : BitVec 32 := 0#32
  let c1_i32_185 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v287 : BitVec 32 := Scalar.subi c1_i32_185 v2
  let c8_i32_186 : BitVec 32 := 8#32
  let v288 : BitVec 32 := Scalar.muli v287 c8_i32_186
  let v289 : BitVec 32 := Scalar.addi c0_i32_187 v288
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_188 : BitVec 32 := 4#32
  let v290 : BitVec 32 := Scalar.muli v5 c4_i32_188
  let v291 : BitVec 32 := Scalar.addi v289 v290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_189 : BitVec 32 := 1#32
  let v292 : BitVec 32 := Scalar.muli v8 c1_i32_189
  let v293 : BitVec 32 := Scalar.addi v291 v292
  v293.toNat
def k0_off41 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_78 : BitVec 32 := 2#32
  let v122 : BitVec 32 := Scalar.addi v8 c2_i32_78
  let c512_i32_203 : BitVec 32 := 512#32
  let v317 : BitVec 32 := Scalar.muli v122 c512_i32_203
  let c1_i32_202 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v316 : BitVec 32 := Scalar.subi c1_i32_202 v2
  let c256_i32_204 : BitVec 32 := 256#32
  let v318 : BitVec 32 := Scalar.muli v316 c256_i32_204
  let v319 : BitVec 32 := Scalar.addi v317 v318
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_205 : BitVec 32 := 128#32
  let v320 : BitVec 32 := Scalar.muli v5 c128_i32_205
  let v321 : BitVec 32 := Scalar.addi v319 v320
  let c64_i32 : BitVec 32 := 64#32
  let v322 : BitVec 32 := Scalar.addi v321 c64_i32
  let c0_i32_211 : BitVec 32 := 0#32
  ![v322.toNat, 0]
def k0_dev33 (d0 : Dev nD) : Nat :=
  let c0_i32_208 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_207 : BitVec 32 := 8#32
  let v324 : BitVec 32 := Scalar.muli v2 c8_i32_207
  let v325 : BitVec 32 := Scalar.addi c0_i32_208 v324
  let c1_i32_206 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v323 : BitVec 32 := Scalar.subi c1_i32_206 v5
  let c4_i32_209 : BitVec 32 := 4#32
  let v326 : BitVec 32 := Scalar.muli v323 c4_i32_209
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210 : BitVec 32 := 1#32
  let v328 : BitVec 32 := Scalar.muli v8 c1_i32_210
  let v329 : BitVec 32 := Scalar.addi v327 v328
  v329.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_85 : BitVec 32 := 3#32
  let v133 : BitVec 32 := Scalar.subi v8 c3_i32_85
  let c0_i32_87 : BitVec 32 := 0#32
  let v135 : BitVec 1 := Scalar.cmpi .sge v133 c0_i32_87
  let c3_i32_88 : BitVec 32 := 3#32
  let v136 : BitVec 1 := Scalar.cmpi .sle v133 c3_i32_88
  let v137 : BitVec 1 := Scalar.andi v135 v136
  let v138 : BitVec 32 := Scalar.extui v137
  let c0_i32_89 : BitVec 32 := 0#32
  let v139 : BitVec 1 := Scalar.cmpi .ne v138 c0_i32_89
  v139

def k0_off42 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_85 : BitVec 32 := 3#32
  let v133 : BitVec 32 := Scalar.subi v8 c3_i32_85
  ![v133.toNat]
def k0_off43 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_85 : BitVec 32 := 3#32
  let v133 : BitVec 32 := Scalar.subi v8 c3_i32_85
  let c512_i32_173 : BitVec 32 := 512#32
  let v265 : BitVec 32 := Scalar.muli v133 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_179 : BitVec 32 := 0#32
  ![v269.toNat, 0]
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_86 : BitVec 32 := 3#32
  let v134 : BitVec 32 := Scalar.addi v8 c3_i32_86
  let c0_i32_90 : BitVec 32 := 0#32
  let v140 : BitVec 1 := Scalar.cmpi .sge v134 c0_i32_90
  let c3_i32_91 : BitVec 32 := 3#32
  let v141 : BitVec 1 := Scalar.cmpi .sle v134 c3_i32_91
  let v142 : BitVec 1 := Scalar.andi v140 v141
  let v143 : BitVec 32 := Scalar.extui v142
  let c0_i32_92 : BitVec 32 := 0#32
  let v144 : BitVec 1 := Scalar.cmpi .ne v143 c0_i32_92
  v144

def k0_off44 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_86 : BitVec 32 := 3#32
  let v134 : BitVec 32 := Scalar.addi v8 c3_i32_86
  ![v134.toNat]
def k0_off45 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_86 : BitVec 32 := 3#32
  let v134 : BitVec 32 := Scalar.addi v8 c3_i32_86
  let c512_i32_173 : BitVec 32 := 512#32
  let v265 : BitVec 32 := Scalar.muli v134 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_179 : BitVec 32 := 0#32
  ![v269.toNat, 0]
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v145 : BitVec 32 := Scalar.subi v8 c1_i32_93
  let c0_i32_95 : BitVec 32 := 0#32
  let v147 : BitVec 1 := Scalar.cmpi .sge v145 c0_i32_95
  let c3_i32_96 : BitVec 32 := 3#32
  let v148 : BitVec 1 := Scalar.cmpi .sle v145 c3_i32_96
  let v149 : BitVec 1 := Scalar.andi v147 v148
  let v150 : BitVec 32 := Scalar.extui v149
  let c0_i32_97 : BitVec 32 := 0#32
  let v151 : BitVec 1 := Scalar.cmpi .ne v150 c0_i32_97
  v151

def k0_off46 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v145 : BitVec 32 := Scalar.subi v8 c1_i32_93
  ![v145.toNat]
def k0_off47 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v145 : BitVec 32 := Scalar.subi v8 c1_i32_93
  let c512_i32_175 : BitVec 32 := 512#32
  let v267 : BitVec 32 := Scalar.muli v145 c512_i32_175
  let c1_i32_173 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v265 : BitVec 32 := Scalar.subi c1_i32_173 v2
  let c256_i32 : BitVec 32 := 256#32
  let v268 : BitVec 32 := Scalar.muli v265 c256_i32
  let v269 : BitVec 32 := Scalar.addi v267 v268
  let c1_i32_174 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v266 : BitVec 32 := Scalar.subi c1_i32_174 v5
  let c128_i32 : BitVec 32 := 128#32
  let v270 : BitVec 32 := Scalar.muli v266 c128_i32
  let v271 : BitVec 32 := Scalar.addi v269 v270
  let c0_i32_181 : BitVec 32 := 0#32
  ![v271.toNat, 0]
def k0_off48 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v145 : BitVec 32 := Scalar.subi v8 c1_i32_93
  let c512_i32_185 : BitVec 32 := 512#32
  let v285 : BitVec 32 := Scalar.muli v145 c512_i32_185
  let c1_i32_183 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v283 : BitVec 32 := Scalar.subi c1_i32_183 v2
  let c256_i32_186 : BitVec 32 := 256#32
  let v286 : BitVec 32 := Scalar.muli v283 c256_i32_186
  let v287 : BitVec 32 := Scalar.addi v285 v286
  let c1_i32_184 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v284 : BitVec 32 := Scalar.subi c1_i32_184 v5
  let c128_i32_187 : BitVec 32 := 128#32
  let v288 : BitVec 32 := Scalar.muli v284 c128_i32_187
  let v289 : BitVec 32 := Scalar.addi v287 v288
  let c64_i32 : BitVec 32 := 64#32
  let v290 : BitVec 32 := Scalar.addi v289 c64_i32
  let c0_i32_193 : BitVec 32 := 0#32
  ![v290.toNat, 0]
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v146 : BitVec 32 := Scalar.addi v8 c1_i32_94
  let c0_i32_98 : BitVec 32 := 0#32
  let v152 : BitVec 1 := Scalar.cmpi .sge v146 c0_i32_98
  let c3_i32_99 : BitVec 32 := 3#32
  let v153 : BitVec 1 := Scalar.cmpi .sle v146 c3_i32_99
  let v154 : BitVec 1 := Scalar.andi v152 v153
  let v155 : BitVec 32 := Scalar.extui v154
  let c0_i32_100 : BitVec 32 := 0#32
  let v156 : BitVec 1 := Scalar.cmpi .ne v155 c0_i32_100
  v156

def k0_off49 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v146 : BitVec 32 := Scalar.addi v8 c1_i32_94
  ![v146.toNat]
def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v146 : BitVec 32 := Scalar.addi v8 c1_i32_94
  let c512_i32_175 : BitVec 32 := 512#32
  let v267 : BitVec 32 := Scalar.muli v146 c512_i32_175
  let c1_i32_173 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v265 : BitVec 32 := Scalar.subi c1_i32_173 v2
  let c256_i32 : BitVec 32 := 256#32
  let v268 : BitVec 32 := Scalar.muli v265 c256_i32
  let v269 : BitVec 32 := Scalar.addi v267 v268
  let c1_i32_174 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v266 : BitVec 32 := Scalar.subi c1_i32_174 v5
  let c128_i32 : BitVec 32 := 128#32
  let v270 : BitVec 32 := Scalar.muli v266 c128_i32
  let v271 : BitVec 32 := Scalar.addi v269 v270
  let c0_i32_181 : BitVec 32 := 0#32
  ![v271.toNat, 0]
def k0_off51 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v146 : BitVec 32 := Scalar.addi v8 c1_i32_94
  let c512_i32_185 : BitVec 32 := 512#32
  let v285 : BitVec 32 := Scalar.muli v146 c512_i32_185
  let c1_i32_183 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v283 : BitVec 32 := Scalar.subi c1_i32_183 v2
  let c256_i32_186 : BitVec 32 := 256#32
  let v286 : BitVec 32 := Scalar.muli v283 c256_i32_186
  let v287 : BitVec 32 := Scalar.addi v285 v286
  let c1_i32_184 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v284 : BitVec 32 := Scalar.subi c1_i32_184 v5
  let c128_i32_187 : BitVec 32 := 128#32
  let v288 : BitVec 32 := Scalar.muli v284 c128_i32_187
  let v289 : BitVec 32 := Scalar.addi v287 v288
  let c64_i32 : BitVec 32 := 64#32
  let v290 : BitVec 32 := Scalar.addi v289 c64_i32
  let c0_i32_193 : BitVec 32 := 0#32
  ![v290.toNat, 0]
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_101 : BitVec 32 := 2#32
  let v157 : BitVec 32 := Scalar.subi v8 c2_i32_101
  let c0_i32_103 : BitVec 32 := 0#32
  let v159 : BitVec 1 := Scalar.cmpi .sge v157 c0_i32_103
  let c3_i32_104 : BitVec 32 := 3#32
  let v160 : BitVec 1 := Scalar.cmpi .sle v157 c3_i32_104
  let v161 : BitVec 1 := Scalar.andi v159 v160
  let v162 : BitVec 32 := Scalar.extui v161
  let c0_i32_105 : BitVec 32 := 0#32
  let v163 : BitVec 1 := Scalar.cmpi .ne v162 c0_i32_105
  v163

def k0_off52 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_101 : BitVec 32 := 2#32
  let v157 : BitVec 32 := Scalar.subi v8 c2_i32_101
  ![v157.toNat]
def k0_off53 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_101 : BitVec 32 := 2#32
  let v157 : BitVec 32 := Scalar.subi v8 c2_i32_101
  let c512_i32_175 : BitVec 32 := 512#32
  let v267 : BitVec 32 := Scalar.muli v157 c512_i32_175
  let c1_i32_173 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v265 : BitVec 32 := Scalar.subi c1_i32_173 v2
  let c256_i32 : BitVec 32 := 256#32
  let v268 : BitVec 32 := Scalar.muli v265 c256_i32
  let v269 : BitVec 32 := Scalar.addi v267 v268
  let c1_i32_174 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v266 : BitVec 32 := Scalar.subi c1_i32_174 v5
  let c128_i32 : BitVec 32 := 128#32
  let v270 : BitVec 32 := Scalar.muli v266 c128_i32
  let v271 : BitVec 32 := Scalar.addi v269 v270
  let c0_i32_181 : BitVec 32 := 0#32
  ![v271.toNat, 0]
def k0_off54 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_101 : BitVec 32 := 2#32
  let v157 : BitVec 32 := Scalar.subi v8 c2_i32_101
  let c512_i32_185 : BitVec 32 := 512#32
  let v285 : BitVec 32 := Scalar.muli v157 c512_i32_185
  let c1_i32_183 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v283 : BitVec 32 := Scalar.subi c1_i32_183 v2
  let c256_i32_186 : BitVec 32 := 256#32
  let v286 : BitVec 32 := Scalar.muli v283 c256_i32_186
  let v287 : BitVec 32 := Scalar.addi v285 v286
  let c1_i32_184 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v284 : BitVec 32 := Scalar.subi c1_i32_184 v5
  let c128_i32_187 : BitVec 32 := 128#32
  let v288 : BitVec 32 := Scalar.muli v284 c128_i32_187
  let v289 : BitVec 32 := Scalar.addi v287 v288
  let c64_i32 : BitVec 32 := 64#32
  let v290 : BitVec 32 := Scalar.addi v289 c64_i32
  let c0_i32_193 : BitVec 32 := 0#32
  ![v290.toNat, 0]
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_102 : BitVec 32 := 2#32
  let v158 : BitVec 32 := Scalar.addi v8 c2_i32_102
  let c0_i32_106 : BitVec 32 := 0#32
  let v164 : BitVec 1 := Scalar.cmpi .sge v158 c0_i32_106
  let c3_i32_107 : BitVec 32 := 3#32
  let v165 : BitVec 1 := Scalar.cmpi .sle v158 c3_i32_107
  let v166 : BitVec 1 := Scalar.andi v164 v165
  let v167 : BitVec 32 := Scalar.extui v166
  let c0_i32_108 : BitVec 32 := 0#32
  let v168 : BitVec 1 := Scalar.cmpi .ne v167 c0_i32_108
  v168

def k0_off55 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_102 : BitVec 32 := 2#32
  let v158 : BitVec 32 := Scalar.addi v8 c2_i32_102
  ![v158.toNat]
def k0_off56 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_102 : BitVec 32 := 2#32
  let v158 : BitVec 32 := Scalar.addi v8 c2_i32_102
  let c512_i32_175 : BitVec 32 := 512#32
  let v267 : BitVec 32 := Scalar.muli v158 c512_i32_175
  let c1_i32_173 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v265 : BitVec 32 := Scalar.subi c1_i32_173 v2
  let c256_i32 : BitVec 32 := 256#32
  let v268 : BitVec 32 := Scalar.muli v265 c256_i32
  let v269 : BitVec 32 := Scalar.addi v267 v268
  let c1_i32_174 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v266 : BitVec 32 := Scalar.subi c1_i32_174 v5
  let c128_i32 : BitVec 32 := 128#32
  let v270 : BitVec 32 := Scalar.muli v266 c128_i32
  let v271 : BitVec 32 := Scalar.addi v269 v270
  let c0_i32_181 : BitVec 32 := 0#32
  ![v271.toNat, 0]
def k0_off57 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_102 : BitVec 32 := 2#32
  let v158 : BitVec 32 := Scalar.addi v8 c2_i32_102
  let c512_i32_185 : BitVec 32 := 512#32
  let v285 : BitVec 32 := Scalar.muli v158 c512_i32_185
  let c1_i32_183 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v283 : BitVec 32 := Scalar.subi c1_i32_183 v2
  let c256_i32_186 : BitVec 32 := 256#32
  let v286 : BitVec 32 := Scalar.muli v283 c256_i32_186
  let v287 : BitVec 32 := Scalar.addi v285 v286
  let c1_i32_184 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v284 : BitVec 32 := Scalar.subi c1_i32_184 v5
  let c128_i32_187 : BitVec 32 := 128#32
  let v288 : BitVec 32 := Scalar.muli v284 c128_i32_187
  let v289 : BitVec 32 := Scalar.addi v287 v288
  let c64_i32 : BitVec 32 := 64#32
  let v290 : BitVec 32 := Scalar.addi v289 c64_i32
  let c0_i32_193 : BitVec 32 := 0#32
  ![v290.toNat, 0]
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_109 : BitVec 32 := 3#32
  let v169 : BitVec 32 := Scalar.subi v8 c3_i32_109
  let c0_i32_111 : BitVec 32 := 0#32
  let v171 : BitVec 1 := Scalar.cmpi .sge v169 c0_i32_111
  let c3_i32_112 : BitVec 32 := 3#32
  let v172 : BitVec 1 := Scalar.cmpi .sle v169 c3_i32_112
  let v173 : BitVec 1 := Scalar.andi v171 v172
  let v174 : BitVec 32 := Scalar.extui v173
  let c0_i32_113 : BitVec 32 := 0#32
  let v175 : BitVec 1 := Scalar.cmpi .ne v174 c0_i32_113
  v175

def k0_off58 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_109 : BitVec 32 := 3#32
  let v169 : BitVec 32 := Scalar.subi v8 c3_i32_109
  ![v169.toNat]
def k0_off59 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_109 : BitVec 32 := 3#32
  let v169 : BitVec 32 := Scalar.subi v8 c3_i32_109
  let c512_i32_175 : BitVec 32 := 512#32
  let v267 : BitVec 32 := Scalar.muli v169 c512_i32_175
  let c1_i32_173 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v265 : BitVec 32 := Scalar.subi c1_i32_173 v2
  let c256_i32 : BitVec 32 := 256#32
  let v268 : BitVec 32 := Scalar.muli v265 c256_i32
  let v269 : BitVec 32 := Scalar.addi v267 v268
  let c1_i32_174 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v266 : BitVec 32 := Scalar.subi c1_i32_174 v5
  let c128_i32 : BitVec 32 := 128#32
  let v270 : BitVec 32 := Scalar.muli v266 c128_i32
  let v271 : BitVec 32 := Scalar.addi v269 v270
  let c0_i32_182 : BitVec 32 := 0#32
  ![v271.toNat, 0]
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_110 : BitVec 32 := 3#32
  let v170 : BitVec 32 := Scalar.addi v8 c3_i32_110
  let c0_i32_114 : BitVec 32 := 0#32
  let v176 : BitVec 1 := Scalar.cmpi .sge v170 c0_i32_114
  let c3_i32_115 : BitVec 32 := 3#32
  let v177 : BitVec 1 := Scalar.cmpi .sle v170 c3_i32_115
  let v178 : BitVec 1 := Scalar.andi v176 v177
  let v179 : BitVec 32 := Scalar.extui v178
  let c0_i32_116 : BitVec 32 := 0#32
  let v180 : BitVec 1 := Scalar.cmpi .ne v179 c0_i32_116
  v180

def k0_off60 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_110 : BitVec 32 := 3#32
  let v170 : BitVec 32 := Scalar.addi v8 c3_i32_110
  ![v170.toNat]
def k0_off61 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_110 : BitVec 32 := 3#32
  let v170 : BitVec 32 := Scalar.addi v8 c3_i32_110
  let c512_i32_175 : BitVec 32 := 512#32
  let v267 : BitVec 32 := Scalar.muli v170 c512_i32_175
  let c1_i32_173 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v265 : BitVec 32 := Scalar.subi c1_i32_173 v2
  let c256_i32 : BitVec 32 := 256#32
  let v268 : BitVec 32 := Scalar.muli v265 c256_i32
  let v269 : BitVec 32 := Scalar.addi v267 v268
  let c1_i32_174 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v266 : BitVec 32 := Scalar.subi c1_i32_174 v5
  let c128_i32 : BitVec 32 := 128#32
  let v270 : BitVec 32 := Scalar.muli v266 c128_i32
  let v271 : BitVec 32 := Scalar.addi v269 v270
  let c0_i32_182 : BitVec 32 := 0#32
  ![v271.toNat, 0]
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v9 : BitVec 1 := Scalar.cmpi .slt v8 c3_i32
  let c1_i32_117 : BitVec 32 := 1#32
  let v181 : BitVec 32 := Scalar.subi v8 c1_i32_117
  let c1_i32_118 : BitVec 32 := 1#32
  let v182 : BitVec 32 := Scalar.addi v181 c1_i32_118
  let c0_i32_121 : BitVec 32 := 0#32
  let v185 : BitVec 1 := Scalar.cmpi .sge v182 c0_i32_121
  let v186 : BitVec 1 := Scalar.andi v9 v185
  let v187 : BitVec 32 := Scalar.extui v186
  let c0_i32_122 : BitVec 32 := 0#32
  let v188 : BitVec 1 := Scalar.cmpi .ne v187 c0_i32_122
  v188

def k0_off62 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v181 : BitVec 32 := Scalar.subi v8 c1_i32_117
  let c1_i32_118 : BitVec 32 := 1#32
  let v182 : BitVec 32 := Scalar.addi v181 c1_i32_118
  ![v182.toNat]
def k0_off63 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v181 : BitVec 32 := Scalar.subi v8 c1_i32_117
  let c1_i32_118 : BitVec 32 := 1#32
  let v182 : BitVec 32 := Scalar.addi v181 c1_i32_118
  let c512_i32_173 : BitVec 32 := 512#32
  let v265 : BitVec 32 := Scalar.muli v182 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_176 : BitVec 32 := 0#32
  ![v269.toNat, 0]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let c1_i32_119 : BitVec 32 := 1#32
  let v183 : BitVec 32 := Scalar.addi v8 c1_i32_119
  let c1_i32_120 : BitVec 32 := 1#32
  let v184 : BitVec 32 := Scalar.subi v183 c1_i32_120
  let c3_i32_123 : BitVec 32 := 3#32
  let v189 : BitVec 1 := Scalar.cmpi .sle v184 c3_i32_123
  let v190 : BitVec 1 := Scalar.andi v10 v189
  let v191 : BitVec 32 := Scalar.extui v190
  let c0_i32_124 : BitVec 32 := 0#32
  let v192 : BitVec 1 := Scalar.cmpi .ne v191 c0_i32_124
  v192

def k0_off64 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v183 : BitVec 32 := Scalar.addi v8 c1_i32_119
  let c1_i32_120 : BitVec 32 := 1#32
  let v184 : BitVec 32 := Scalar.subi v183 c1_i32_120
  ![v184.toNat]
def k0_off65 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v183 : BitVec 32 := Scalar.addi v8 c1_i32_119
  let c1_i32_120 : BitVec 32 := 1#32
  let v184 : BitVec 32 := Scalar.subi v183 c1_i32_120
  let c512_i32_173 : BitVec 32 := 512#32
  let v265 : BitVec 32 := Scalar.muli v184 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_175 : BitVec 32 := 0#32
  ![v269.toNat, 0]
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v9 : BitVec 1 := Scalar.cmpi .slt v8 c3_i32
  let c2_i32_125 : BitVec 32 := 2#32
  let v193 : BitVec 32 := Scalar.subi v8 c2_i32_125
  let c1_i32_126 : BitVec 32 := 1#32
  let v194 : BitVec 32 := Scalar.addi v193 c1_i32_126
  let c0_i32_129 : BitVec 32 := 0#32
  let v197 : BitVec 1 := Scalar.cmpi .sge v194 c0_i32_129
  let v198 : BitVec 1 := Scalar.andi v9 v197
  let v199 : BitVec 32 := Scalar.extui v198
  let c0_i32_130 : BitVec 32 := 0#32
  let v200 : BitVec 1 := Scalar.cmpi .ne v199 c0_i32_130
  v200

def k0_off66 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_125 : BitVec 32 := 2#32
  let v193 : BitVec 32 := Scalar.subi v8 c2_i32_125
  let c1_i32_126 : BitVec 32 := 1#32
  let v194 : BitVec 32 := Scalar.addi v193 c1_i32_126
  ![v194.toNat]
def k0_off67 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_125 : BitVec 32 := 2#32
  let v193 : BitVec 32 := Scalar.subi v8 c2_i32_125
  let c1_i32_126 : BitVec 32 := 1#32
  let v194 : BitVec 32 := Scalar.addi v193 c1_i32_126
  let c512_i32_173 : BitVec 32 := 512#32
  let v265 : BitVec 32 := Scalar.muli v194 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_176 : BitVec 32 := 0#32
  ![v269.toNat, 0]
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let c2_i32_127 : BitVec 32 := 2#32
  let v195 : BitVec 32 := Scalar.addi v8 c2_i32_127
  let c1_i32_128 : BitVec 32 := 1#32
  let v196 : BitVec 32 := Scalar.subi v195 c1_i32_128
  let c3_i32_131 : BitVec 32 := 3#32
  let v201 : BitVec 1 := Scalar.cmpi .sle v196 c3_i32_131
  let v202 : BitVec 1 := Scalar.andi v10 v201
  let v203 : BitVec 32 := Scalar.extui v202
  let c0_i32_132 : BitVec 32 := 0#32
  let v204 : BitVec 1 := Scalar.cmpi .ne v203 c0_i32_132
  v204

def k0_off68 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_127 : BitVec 32 := 2#32
  let v195 : BitVec 32 := Scalar.addi v8 c2_i32_127
  let c1_i32_128 : BitVec 32 := 1#32
  let v196 : BitVec 32 := Scalar.subi v195 c1_i32_128
  ![v196.toNat]
def k0_off69 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_127 : BitVec 32 := 2#32
  let v195 : BitVec 32 := Scalar.addi v8 c2_i32_127
  let c1_i32_128 : BitVec 32 := 1#32
  let v196 : BitVec 32 := Scalar.subi v195 c1_i32_128
  let c512_i32_173 : BitVec 32 := 512#32
  let v265 : BitVec 32 := Scalar.muli v196 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_175 : BitVec 32 := 0#32
  ![v269.toNat, 0]
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v9 : BitVec 1 := Scalar.cmpi .slt v8 c3_i32
  let c3_i32_133 : BitVec 32 := 3#32
  let v205 : BitVec 32 := Scalar.subi v8 c3_i32_133
  let c1_i32_134 : BitVec 32 := 1#32
  let v206 : BitVec 32 := Scalar.addi v205 c1_i32_134
  let c0_i32_137 : BitVec 32 := 0#32
  let v209 : BitVec 1 := Scalar.cmpi .sge v206 c0_i32_137
  let v210 : BitVec 1 := Scalar.andi v9 v209
  let v211 : BitVec 32 := Scalar.extui v210
  let c0_i32_138 : BitVec 32 := 0#32
  let v212 : BitVec 1 := Scalar.cmpi .ne v211 c0_i32_138
  v212

def k0_off70 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_133 : BitVec 32 := 3#32
  let v205 : BitVec 32 := Scalar.subi v8 c3_i32_133
  let c1_i32_134 : BitVec 32 := 1#32
  let v206 : BitVec 32 := Scalar.addi v205 c1_i32_134
  ![v206.toNat]
def k0_off71 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_133 : BitVec 32 := 3#32
  let v205 : BitVec 32 := Scalar.subi v8 c3_i32_133
  let c1_i32_134 : BitVec 32 := 1#32
  let v206 : BitVec 32 := Scalar.addi v205 c1_i32_134
  let c512_i32_173 : BitVec 32 := 512#32
  let v265 : BitVec 32 := Scalar.muli v206 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_176 : BitVec 32 := 0#32
  ![v269.toNat, 0]
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let c3_i32_135 : BitVec 32 := 3#32
  let v207 : BitVec 32 := Scalar.addi v8 c3_i32_135
  let c1_i32_136 : BitVec 32 := 1#32
  let v208 : BitVec 32 := Scalar.subi v207 c1_i32_136
  let c3_i32_139 : BitVec 32 := 3#32
  let v213 : BitVec 1 := Scalar.cmpi .sle v208 c3_i32_139
  let v214 : BitVec 1 := Scalar.andi v10 v213
  let v215 : BitVec 32 := Scalar.extui v214
  let c0_i32_140 : BitVec 32 := 0#32
  let v216 : BitVec 1 := Scalar.cmpi .ne v215 c0_i32_140
  v216

def k0_off72 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_135 : BitVec 32 := 3#32
  let v207 : BitVec 32 := Scalar.addi v8 c3_i32_135
  let c1_i32_136 : BitVec 32 := 1#32
  let v208 : BitVec 32 := Scalar.subi v207 c1_i32_136
  ![v208.toNat]
def k0_off73 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_135 : BitVec 32 := 3#32
  let v207 : BitVec 32 := Scalar.addi v8 c3_i32_135
  let c1_i32_136 : BitVec 32 := 1#32
  let v208 : BitVec 32 := Scalar.subi v207 c1_i32_136
  let c512_i32_173 : BitVec 32 := 512#32
  let v265 : BitVec 32 := Scalar.muli v208 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_175 : BitVec 32 := 0#32
  ![v269.toNat, 0]
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_141 : BitVec 32 := 0#32
  let v217 : BitVec 1 := Scalar.cmpi .ne v8 c0_i32_141
  let v218 : BitVec 32 := Scalar.extui v217
  let c0_i32_142 : BitVec 32 := 0#32
  let v219 : BitVec 1 := Scalar.cmpi .ne v218 c0_i32_142
  v219

def k0_off74 (d0 : Dev nD) : Fin 2 → Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v265 : BitVec 32 := Scalar.muli v2 c256_i32
  let v266 : BitVec 32 := Scalar.addi c0_i32_173 v265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v267 : BitVec 32 := Scalar.muli v5 c128_i32
  let v268 : BitVec 32 := Scalar.addi v266 v267
  let c0_i32_178 : BitVec 32 := 0#32
  ![v268.toNat, 0]
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v220 : BitVec 1 := Scalar.cmpi .ne v8 c1_i32_143
  let v221 : BitVec 32 := Scalar.extui v220
  let c0_i32_144 : BitVec 32 := 0#32
  let v222 : BitVec 1 := Scalar.cmpi .ne v221 c0_i32_144
  v222

def k0_off75 (d0 : Dev nD) : Fin 2 → Nat :=
  let c512_i32_173 : BitVec 32 := 512#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v265 : BitVec 32 := Scalar.muli v2 c256_i32
  let v266 : BitVec 32 := Scalar.addi c512_i32_173 v265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v267 : BitVec 32 := Scalar.muli v5 c128_i32
  let v268 : BitVec 32 := Scalar.addi v266 v267
  let c0_i32_178 : BitVec 32 := 0#32
  ![v268.toNat, 0]
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_145 : BitVec 32 := 2#32
  let v223 : BitVec 1 := Scalar.cmpi .ne v8 c2_i32_145
  let v224 : BitVec 32 := Scalar.extui v223
  let c0_i32_146 : BitVec 32 := 0#32
  let v225 : BitVec 1 := Scalar.cmpi .ne v224 c0_i32_146
  v225

def k0_off76 (d0 : Dev nD) : Fin 2 → Nat :=
  let c1024_i32 : BitVec 32 := 1024#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v265 : BitVec 32 := Scalar.muli v2 c256_i32
  let v266 : BitVec 32 := Scalar.addi c1024_i32 v265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v267 : BitVec 32 := Scalar.muli v5 c128_i32
  let v268 : BitVec 32 := Scalar.addi v266 v267
  let c0_i32_177 : BitVec 32 := 0#32
  ![v268.toNat, 0]
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_147 : BitVec 32 := 3#32
  let v226 : BitVec 1 := Scalar.cmpi .ne v8 c3_i32_147
  let v227 : BitVec 32 := Scalar.extui v226
  let c0_i32_148 : BitVec 32 := 0#32
  let v228 : BitVec 1 := Scalar.cmpi .ne v227 c0_i32_148
  v228

def k0_off77 (d0 : Dev nD) : Fin 2 → Nat :=
  let c1536_i32 : BitVec 32 := 1536#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v265 : BitVec 32 := Scalar.muli v2 c256_i32
  let v266 : BitVec 32 := Scalar.addi c1536_i32 v265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v267 : BitVec 32 := Scalar.muli v5 c128_i32
  let v268 : BitVec 32 := Scalar.addi v266 v267
  let c0_i32_177 : BitVec 32 := 0#32
  ![v268.toNat, 0]
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v229 : BitVec 32 := Scalar.subi v8 c1_i32_149
  let c0_i32_151 : BitVec 32 := 0#32
  let v231 : BitVec 1 := Scalar.cmpi .sge v229 c0_i32_151
  let c3_i32_152 : BitVec 32 := 3#32
  let v232 : BitVec 1 := Scalar.cmpi .sle v229 c3_i32_152
  let v233 : BitVec 1 := Scalar.andi v231 v232
  let v234 : BitVec 32 := Scalar.extui v233
  let c0_i32_153 : BitVec 32 := 0#32
  let v235 : BitVec 1 := Scalar.cmpi .ne v234 c0_i32_153
  v235

def k0_off78 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v229 : BitVec 32 := Scalar.subi v8 c1_i32_149
  ![v229.toNat]
def k0_off79 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v229 : BitVec 32 := Scalar.subi v8 c1_i32_149
  let c512_i32_174 : BitVec 32 := 512#32
  let v266 : BitVec 32 := Scalar.muli v229 c512_i32_174
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v267 : BitVec 32 := Scalar.muli v2 c256_i32
  let v268 : BitVec 32 := Scalar.addi v266 v267
  let c1_i32_173 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v265 : BitVec 32 := Scalar.subi c1_i32_173 v5
  let c128_i32 : BitVec 32 := 128#32
  let v269 : BitVec 32 := Scalar.muli v265 c128_i32
  let v270 : BitVec 32 := Scalar.addi v268 v269
  let c0_i32_177 : BitVec 32 := 0#32
  ![v270.toNat, 0]
def k0_off80 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v229 : BitVec 32 := Scalar.subi v8 c1_i32_149
  let c512_i32_180 : BitVec 32 := 512#32
  let v277 : BitVec 32 := Scalar.muli v229 c512_i32_180
  let c1_i32_179 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v276 : BitVec 32 := Scalar.subi c1_i32_179 v2
  let c256_i32_181 : BitVec 32 := 256#32
  let v278 : BitVec 32 := Scalar.muli v276 c256_i32_181
  let v279 : BitVec 32 := Scalar.addi v277 v278
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_182 : BitVec 32 := 128#32
  let v280 : BitVec 32 := Scalar.muli v5 c128_i32_182
  let v281 : BitVec 32 := Scalar.addi v279 v280
  let c64_i32 : BitVec 32 := 64#32
  let v282 : BitVec 32 := Scalar.addi v281 c64_i32
  let c0_i32_185 : BitVec 32 := 0#32
  ![v282.toNat, 0]
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v230 : BitVec 32 := Scalar.addi v8 c1_i32_150
  let c0_i32_154 : BitVec 32 := 0#32
  let v236 : BitVec 1 := Scalar.cmpi .sge v230 c0_i32_154
  let c3_i32_155 : BitVec 32 := 3#32
  let v237 : BitVec 1 := Scalar.cmpi .sle v230 c3_i32_155
  let v238 : BitVec 1 := Scalar.andi v236 v237
  let v239 : BitVec 32 := Scalar.extui v238
  let c0_i32_156 : BitVec 32 := 0#32
  let v240 : BitVec 1 := Scalar.cmpi .ne v239 c0_i32_156
  v240

def k0_off81 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v230 : BitVec 32 := Scalar.addi v8 c1_i32_150
  ![v230.toNat]
def k0_off82 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v230 : BitVec 32 := Scalar.addi v8 c1_i32_150
  let c512_i32_174 : BitVec 32 := 512#32
  let v266 : BitVec 32 := Scalar.muli v230 c512_i32_174
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v267 : BitVec 32 := Scalar.muli v2 c256_i32
  let v268 : BitVec 32 := Scalar.addi v266 v267
  let c1_i32_173 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v265 : BitVec 32 := Scalar.subi c1_i32_173 v5
  let c128_i32 : BitVec 32 := 128#32
  let v269 : BitVec 32 := Scalar.muli v265 c128_i32
  let v270 : BitVec 32 := Scalar.addi v268 v269
  let c0_i32_177 : BitVec 32 := 0#32
  ![v270.toNat, 0]
def k0_off83 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v230 : BitVec 32 := Scalar.addi v8 c1_i32_150
  let c512_i32_180 : BitVec 32 := 512#32
  let v277 : BitVec 32 := Scalar.muli v230 c512_i32_180
  let c1_i32_179 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v276 : BitVec 32 := Scalar.subi c1_i32_179 v2
  let c256_i32_181 : BitVec 32 := 256#32
  let v278 : BitVec 32 := Scalar.muli v276 c256_i32_181
  let v279 : BitVec 32 := Scalar.addi v277 v278
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_182 : BitVec 32 := 128#32
  let v280 : BitVec 32 := Scalar.muli v5 c128_i32_182
  let v281 : BitVec 32 := Scalar.addi v279 v280
  let c64_i32 : BitVec 32 := 64#32
  let v282 : BitVec 32 := Scalar.addi v281 c64_i32
  let c0_i32_185 : BitVec 32 := 0#32
  ![v282.toNat, 0]
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_157 : BitVec 32 := 2#32
  let v241 : BitVec 32 := Scalar.subi v8 c2_i32_157
  let c0_i32_159 : BitVec 32 := 0#32
  let v243 : BitVec 1 := Scalar.cmpi .sge v241 c0_i32_159
  let c3_i32_160 : BitVec 32 := 3#32
  let v244 : BitVec 1 := Scalar.cmpi .sle v241 c3_i32_160
  let v245 : BitVec 1 := Scalar.andi v243 v244
  let v246 : BitVec 32 := Scalar.extui v245
  let c0_i32_161 : BitVec 32 := 0#32
  let v247 : BitVec 1 := Scalar.cmpi .ne v246 c0_i32_161
  v247

def k0_off84 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_157 : BitVec 32 := 2#32
  let v241 : BitVec 32 := Scalar.subi v8 c2_i32_157
  ![v241.toNat]
def k0_off85 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_157 : BitVec 32 := 2#32
  let v241 : BitVec 32 := Scalar.subi v8 c2_i32_157
  let c512_i32_174 : BitVec 32 := 512#32
  let v266 : BitVec 32 := Scalar.muli v241 c512_i32_174
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v267 : BitVec 32 := Scalar.muli v2 c256_i32
  let v268 : BitVec 32 := Scalar.addi v266 v267
  let c1_i32_173 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v265 : BitVec 32 := Scalar.subi c1_i32_173 v5
  let c128_i32 : BitVec 32 := 128#32
  let v269 : BitVec 32 := Scalar.muli v265 c128_i32
  let v270 : BitVec 32 := Scalar.addi v268 v269
  let c0_i32_177 : BitVec 32 := 0#32
  ![v270.toNat, 0]
def k0_off86 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_157 : BitVec 32 := 2#32
  let v241 : BitVec 32 := Scalar.subi v8 c2_i32_157
  let c512_i32_180 : BitVec 32 := 512#32
  let v277 : BitVec 32 := Scalar.muli v241 c512_i32_180
  let c1_i32_179 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v276 : BitVec 32 := Scalar.subi c1_i32_179 v2
  let c256_i32_181 : BitVec 32 := 256#32
  let v278 : BitVec 32 := Scalar.muli v276 c256_i32_181
  let v279 : BitVec 32 := Scalar.addi v277 v278
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_182 : BitVec 32 := 128#32
  let v280 : BitVec 32 := Scalar.muli v5 c128_i32_182
  let v281 : BitVec 32 := Scalar.addi v279 v280
  let c64_i32 : BitVec 32 := 64#32
  let v282 : BitVec 32 := Scalar.addi v281 c64_i32
  let c0_i32_185 : BitVec 32 := 0#32
  ![v282.toNat, 0]
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_158 : BitVec 32 := 2#32
  let v242 : BitVec 32 := Scalar.addi v8 c2_i32_158
  let c0_i32_162 : BitVec 32 := 0#32
  let v248 : BitVec 1 := Scalar.cmpi .sge v242 c0_i32_162
  let c3_i32_163 : BitVec 32 := 3#32
  let v249 : BitVec 1 := Scalar.cmpi .sle v242 c3_i32_163
  let v250 : BitVec 1 := Scalar.andi v248 v249
  let v251 : BitVec 32 := Scalar.extui v250
  let c0_i32_164 : BitVec 32 := 0#32
  let v252 : BitVec 1 := Scalar.cmpi .ne v251 c0_i32_164
  v252

def k0_off87 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_158 : BitVec 32 := 2#32
  let v242 : BitVec 32 := Scalar.addi v8 c2_i32_158
  ![v242.toNat]
def k0_off88 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_158 : BitVec 32 := 2#32
  let v242 : BitVec 32 := Scalar.addi v8 c2_i32_158
  let c512_i32_174 : BitVec 32 := 512#32
  let v266 : BitVec 32 := Scalar.muli v242 c512_i32_174
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v267 : BitVec 32 := Scalar.muli v2 c256_i32
  let v268 : BitVec 32 := Scalar.addi v266 v267
  let c1_i32_173 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v265 : BitVec 32 := Scalar.subi c1_i32_173 v5
  let c128_i32 : BitVec 32 := 128#32
  let v269 : BitVec 32 := Scalar.muli v265 c128_i32
  let v270 : BitVec 32 := Scalar.addi v268 v269
  let c0_i32_177 : BitVec 32 := 0#32
  ![v270.toNat, 0]
def k0_off89 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_158 : BitVec 32 := 2#32
  let v242 : BitVec 32 := Scalar.addi v8 c2_i32_158
  let c512_i32_180 : BitVec 32 := 512#32
  let v277 : BitVec 32 := Scalar.muli v242 c512_i32_180
  let c1_i32_179 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v276 : BitVec 32 := Scalar.subi c1_i32_179 v2
  let c256_i32_181 : BitVec 32 := 256#32
  let v278 : BitVec 32 := Scalar.muli v276 c256_i32_181
  let v279 : BitVec 32 := Scalar.addi v277 v278
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32_182 : BitVec 32 := 128#32
  let v280 : BitVec 32 := Scalar.muli v5 c128_i32_182
  let v281 : BitVec 32 := Scalar.addi v279 v280
  let c64_i32 : BitVec 32 := 64#32
  let v282 : BitVec 32 := Scalar.addi v281 c64_i32
  let c0_i32_185 : BitVec 32 := 0#32
  ![v282.toNat, 0]
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_165 : BitVec 32 := 3#32
  let v253 : BitVec 32 := Scalar.subi v8 c3_i32_165
  let c0_i32_167 : BitVec 32 := 0#32
  let v255 : BitVec 1 := Scalar.cmpi .sge v253 c0_i32_167
  let c3_i32_168 : BitVec 32 := 3#32
  let v256 : BitVec 1 := Scalar.cmpi .sle v253 c3_i32_168
  let v257 : BitVec 1 := Scalar.andi v255 v256
  let v258 : BitVec 32 := Scalar.extui v257
  let c0_i32_169 : BitVec 32 := 0#32
  let v259 : BitVec 1 := Scalar.cmpi .ne v258 c0_i32_169
  v259

def k0_off90 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_165 : BitVec 32 := 3#32
  let v253 : BitVec 32 := Scalar.subi v8 c3_i32_165
  ![v253.toNat]
def k0_off91 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_165 : BitVec 32 := 3#32
  let v253 : BitVec 32 := Scalar.subi v8 c3_i32_165
  let c512_i32_173 : BitVec 32 := 512#32
  let v265 : BitVec 32 := Scalar.muli v253 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_177 : BitVec 32 := 0#32
  ![v269.toNat, 0]
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_166 : BitVec 32 := 3#32
  let v254 : BitVec 32 := Scalar.addi v8 c3_i32_166
  let c0_i32_170 : BitVec 32 := 0#32
  let v260 : BitVec 1 := Scalar.cmpi .sge v254 c0_i32_170
  let c3_i32_171 : BitVec 32 := 3#32
  let v261 : BitVec 1 := Scalar.cmpi .sle v254 c3_i32_171
  let v262 : BitVec 1 := Scalar.andi v260 v261
  let v263 : BitVec 32 := Scalar.extui v262
  let c0_i32_172 : BitVec 32 := 0#32
  let v264 : BitVec 1 := Scalar.cmpi .ne v263 c0_i32_172
  v264

def k0_off92 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_166 : BitVec 32 := 3#32
  let v254 : BitVec 32 := Scalar.addi v8 c3_i32_166
  ![v254.toNat]
def k0_off93 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_166 : BitVec 32 := 3#32
  let v254 : BitVec 32 := Scalar.addi v8 c3_i32_166
  let c512_i32_173 : BitVec 32 := 512#32
  let v265 : BitVec 32 := Scalar.muli v254 c512_i32_173
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v266 : BitVec 32 := Scalar.muli v2 c256_i32
  let v267 : BitVec 32 := Scalar.addi v265 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c128_i32 : BitVec 32 := 128#32
  let v268 : BitVec 32 := Scalar.muli v5 c128_i32
  let v269 : BitVec 32 := Scalar.addi v267 v268
  let c0_i32_177 : BitVec 32 := 0#32
  ![v269.toNat, 0]
def k0_dev34 (d0 : Dev nD) : Nat :=
  let c0_i32_179_r0 : BitVec 32 := 0#32
  let c1_i32_173_r0 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v266_r0 : BitVec 32 := Scalar.subi c1_i32_173_r0 v2
  let c8_i32_178_r0 : BitVec 32 := 8#32
  let v270_r0 : BitVec 32 := Scalar.muli v266_r0 c8_i32_178_r0
  let v271_r0 : BitVec 32 := Scalar.addi c0_i32_179_r0 v270_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_180_r0 : BitVec 32 := 4#32
  let v272_r0 : BitVec 32 := Scalar.muli v5 c4_i32_180_r0
  let v273_r0 : BitVec 32 := Scalar.addi v271_r0 v272_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181_r0 : BitVec 32 := 1#32
  let v274_r0 : BitVec 32 := Scalar.muli v8 c1_i32_181_r0
  let v275_r0 : BitVec 32 := Scalar.addi v273_r0 v274_r0
  v275_r0.toNat
def k0_dev35 (d0 : Dev nD) : Nat :=
  let c0_i32_184_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_183_r0 : BitVec 32 := 8#32
  let v276_r0 : BitVec 32 := Scalar.muli v2 c8_i32_183_r0
  let v277_r0 : BitVec 32 := Scalar.addi c0_i32_184_r0 v276_r0
  let c1_i32_174_r0 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v267_r0 : BitVec 32 := Scalar.subi c1_i32_174_r0 v5
  let c4_i32_185_r0 : BitVec 32 := 4#32
  let v278_r0 : BitVec 32 := Scalar.muli v267_r0 c4_i32_185_r0
  let v279_r0 : BitVec 32 := Scalar.addi v277_r0 v278_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_186_r0 : BitVec 32 := 1#32
  let v280_r0 : BitVec 32 := Scalar.muli v8 c1_i32_186_r0
  let v281_r0 : BitVec 32 := Scalar.addi v279_r0 v280_r0
  v281_r0.toNat
def k0_dev36 (d0 : Dev nD) : Nat :=
  let c0_i32_189_r0 : BitVec 32 := 0#32
  let c1_i32_175_r0 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v268_r0 : BitVec 32 := Scalar.subi c1_i32_175_r0 v2
  let c8_i32_188_r0 : BitVec 32 := 8#32
  let v282_r0 : BitVec 32 := Scalar.muli v268_r0 c8_i32_188_r0
  let v283_r0 : BitVec 32 := Scalar.addi c0_i32_189_r0 v282_r0
  let c1_i32_176_r0 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v269_r0 : BitVec 32 := Scalar.subi c1_i32_176_r0 v5
  let c4_i32_190_r0 : BitVec 32 := 4#32
  let v284_r0 : BitVec 32 := Scalar.muli v269_r0 c4_i32_190_r0
  let v285_r0 : BitVec 32 := Scalar.addi v283_r0 v284_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191_r0 : BitVec 32 := 1#32
  let v286_r0 : BitVec 32 := Scalar.muli v8 c1_i32_191_r0
  let v287_r0 : BitVec 32 := Scalar.addi v285_r0 v286_r0
  v287_r0.toNat
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v9 : BitVec 1 := Scalar.cmpi .slt v8 c3_i32
  let v288_r0 : BitVec 32 := Scalar.extui v9
  let c0_i32_192_r0 : BitVec 32 := 0#32
  let v289_r0 : BitVec 1 := Scalar.cmpi .ne v288_r0 c0_i32_192_r0
  v289_r0

def k0_dev37 (d0 : Dev nD) : Nat :=
  let c0_i32_200_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_199_r0 : BitVec 32 := 8#32
  let v299_r0 : BitVec 32 := Scalar.muli v2 c8_i32_199_r0
  let v300_r0 : BitVec 32 := Scalar.addi c0_i32_200_r0 v299_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_201_r0 : BitVec 32 := 4#32
  let v301_r0 : BitVec 32 := Scalar.muli v5 c4_i32_201_r0
  let v302_r0 : BitVec 32 := Scalar.addi v300_r0 v301_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197_r0 : BitVec 32 := 1#32
  let v298_r0 : BitVec 32 := Scalar.addi v8 c1_i32_197_r0
  let c1_i32_202_r0 : BitVec 32 := 1#32
  let v303_r0 : BitVec 32 := Scalar.muli v298_r0 c1_i32_202_r0
  let v304_r0 : BitVec 32 := Scalar.addi v302_r0 v303_r0
  v304_r0.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .sgt v8 c0_i32
  let v290_r0 : BitVec 32 := Scalar.extui v10
  let c0_i32_193_r0 : BitVec 32 := 0#32
  let v291_r0 : BitVec 1 := Scalar.cmpi .ne v290_r0 c0_i32_193_r0
  v291_r0

def k0_dev38 (d0 : Dev nD) : Nat :=
  let c0_i32_200_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_199_r0 : BitVec 32 := 8#32
  let v299_r0 : BitVec 32 := Scalar.muli v2 c8_i32_199_r0
  let v300_r0 : BitVec 32 := Scalar.addi c0_i32_200_r0 v299_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_201_r0 : BitVec 32 := 4#32
  let v301_r0 : BitVec 32 := Scalar.muli v5 c4_i32_201_r0
  let v302_r0 : BitVec 32 := Scalar.addi v300_r0 v301_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197_r0 : BitVec 32 := 1#32
  let v298_r0 : BitVec 32 := Scalar.subi v8 c1_i32_197_r0
  let c1_i32_202_r0 : BitVec 32 := 1#32
  let v303_r0 : BitVec 32 := Scalar.muli v298_r0 c1_i32_202_r0
  let v304_r0 : BitVec 32 := Scalar.addi v302_r0 v303_r0
  v304_r0.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩

abbrev nBuf : Space → Nat
  | .hbm => 1
  | .vmem => 0
  | .smem => 0
  | _ => 0

abbrev bufTy : (tb : Table) → Fin (tcTables nBuf tb) → BufTy
  | .hbm, ⟨0, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Plan.lean ====
/-
The plan of the all-gather: the sixteen devices as a 2 × 2 × 4 grid, the copies each device sends and
receives, and the kernel's steps as a list of plain data. Nothing here mentions a machine state: a
finite check at the end runs the list of steps of every device against the bookkeeping of what the
device may do next.

Device `c` is at `x = c / 8`, `y = c / 4 % 2`, `z = c % 4`. The output has four blocks of 512 rows, one per
value of `z`; each block has four quarters of 128 rows, one per pair `(x, y)`; each quarter has two pieces of
64 rows. A copy is named by a number below 28: its kind is `t / 4`, its block `t % 4`. The kinds are
0: up the z axis, 1: down the z axis, 2: to the x peer, 3: to the y peer, 4: a piece to the x peer of
what the y peer sent, 5: a piece to the y peer of what the x peer sent, 6: to the diagonal peer.
-/
module

public import proofs.«01_k».proof.Proof.Gen.KernelIdeal

@[expose] public section

namespace Cert.KernelIdeal.Gather

open Idealize.ShloMosaic Cert.KernelIdeal Cert.KernelIdeal.Gen

/-! ## The grid -/

/-- The names of the copies. -/
abbrev T : Type := Fin 28

/-- The device at `(x, y, z)`. -/
def at3 (x y z : ℕ) : ℕ := 8 * x + 4 * y + z

/-- The distance of the blocks `o` and `z`. -/
def gap (o z : ℕ) : ℕ := (o - z) + (z - o)

/-- Whether device `c` sends the copy `t`. -/
def sends (c t : ℕ) : Bool :=
  let z := c % 4; let o := t % 4
  match t / 4 with
  | 0 => decide (z < 3 ∧ o ≤ z)
  | 1 => decide (0 < z ∧ z ≤ o)
  | 2 | 3 => decide (o ≠ z)
  | 4 | 5 => decide (gap o z = 1 ∨ gap o z = 2)
  | _ => decide (gap o z = 3)

/-- Whether device `c` receives the copy `t`. -/
def gets (c t : ℕ) : Bool :=
  match t / 4 with
  | 0 => decide (t % 4 < c % 4)
  | 1 => decide (c % 4 < t % 4)
  | _ => sends c t

/-- The device that device `c` sends the copy `t` to. -/
def dstN (c t : ℕ) : ℕ :=
  let x := c / 8; let y := c / 4 % 2; let z := c % 4
  match t / 4 with
  | 0 => c + 1
  | 1 => c - 1
  | 2 | 4 => at3 (1 - x) y z
  | 3 | 5 => at3 x (1 - y) z
  | _ => at3 (1 - x) (1 - y) z

/-- The device that device `c` receives the copy `t` from. -/
def srcN (c t : ℕ) : ℕ :=
  match t / 4 with
  | 0 => c - 1
  | 1 => c + 1
  | _ => dstN c t

/-- The first row, at the sender and at the receiver alike, of the copy `t` sent by device `c`. -/
def row (c t : ℕ) : ℕ :=
  let x := c / 8; let y := c / 4 % 2; let o := t % 4
  match t / 4 with
  | 4 => 512 * o + 256 * x + 128 * (1 - y)
  | 5 => 512 * o + 256 * (1 - x) + 128 * y + 64
  | _ => 512 * o + 256 * x + 128 * y

/-- Whether the copy `t` moves a quarter (128 rows) rather than a piece (64 rows). -/
def big (t : ℕ) : Bool := !(t / 4 == 4 || t / 4 == 5)

/-- The rows of a quarter or of a piece. -/
def rows (b : Bool) : ℕ := if b then 128 else 64

/-- A sender's semaphore of the copy `t`, as a number. -/
def sIdx (t : ℕ) : ℕ := 2 + 8 * (t / 4) + t % 4

/-- A receiver's semaphore of the copy `t`, as a number. -/
def rIdx (t : ℕ) : ℕ := 6 + 8 * (t / 4) + t % 4

/-- The copy a semaphore number belongs to. -/
def tOf (q : ℕ) : T := ⟨(q - 2) / 8 % 7 * 4 + (q - 2) % 4, by omega⟩

/-- Whether a semaphore number is a receiver's. -/
def isR (q : ℕ) : Bool := decide (2 ≤ q ∧ (q - 2) / 4 % 2 = 1)

/-- How late, in the order in which waits may rely on one another, device `c` receives the copy `t`. -/
def rank (c t : ℕ) : ℕ :=
  match t / 4 with
  | 0 | 1 => 10 + gap (t % 4) (c % 4)
  | 4 | 5 => 30
  | _ => 20

/-- Whether `c` and `e` exchange barrier signals: the three other devices of the plane, and the neighbours along z. -/
def near (c e : ℕ) : Bool :=
  decide ((c % 4 = e % 4 ∧ c ≠ e) ∨ (c / 4 = e / 4 ∧ gap (c % 4) (e % 4) = 1))

theorem dst_lt : ∀ (c : Dev nD) (t : T), sends c t = true → dstN c t < nD := by decide +kernel
theorem src_lt : ∀ (c : Dev nD) (t : T), gets c t = true → srcN c t < nD := by decide +kernel

/-- `dstN` as a device (any device where nothing is sent). -/
def dst (c : Dev nD) (t : T) : Dev nD := ⟨dstN c t % 16, Nat.mod_lt _ (by decide)⟩

/-- `srcN` as a device (any device where nothing is received). -/
def src (c : Dev nD) (t : T) : Dev nD := ⟨srcN c t % 16, Nat.mod_lt _ (by decide)⟩

theorem dst_val : ∀ (c : Dev nD) (t : T), sends c t = true → dstN c t = (dst c t).val := by decide +kernel
theorem gets_dst : ∀ (c : Dev nD) (t : T), sends c t = true → gets (dst c t) t = true := by decide +kernel
theorem src_dst : ∀ (c : Dev nD) (t : T), sends c t = true → src (dst c t) t = c := by decide +kernel
theorem sends_src : ∀ (c : Dev nD) (t : T), gets c t = true → sends (src c t) t = true := by decide +kernel
theorem dst_src : ∀ (c : Dev nD) (t : T), gets c t = true → dst (src c t) t = c := by decide +kernel
theorem near_dst : ∀ (c : Dev nD) (t : T), sends c t = true → near c (dst c t) = true := by decide +kernel
theorem near_comm : ∀ c e : Dev nD, near c e = near e c := by decide +kernel
theorem row_add_le : ∀ (c : Dev nD) (t : T), row c t + rows (big t) ≤ 2048 := by decide +kernel
theorem sIdx_lt : ∀ t : T, sIdx t < 58 := by decide
theorem rIdx_lt : ∀ t : T, rIdx t < 58 := by decide
theorem tOf_sIdx : ∀ t : T, tOf (sIdx t) = t := by decide
theorem tOf_rIdx : ∀ t : T, tOf (rIdx t) = t := by decide
theorem isR_sIdx : ∀ t : T, isR (sIdx t) = false := by decide
theorem isR_rIdx : ∀ t : T, isR (rIdx t) = true := by decide
/-- Every semaphore number above the two staging ones is one copy's, at its sender or at its receiver. -/
theorem idx_tOf : ∀ q : Fin 58, 2 ≤ q.val → q.val = if isR q then rIdx (tOf q) else sIdx (tOf q) := by decide

/-- The copies device `c` sends. -/
def outs (c : Dev nD) : Finset T := Finset.univ.filter fun t => sends c t = true
/-- The copies device `c` receives. -/
def ins (c : Dev nD) : Finset T := Finset.univ.filter fun t => gets c t = true
/-- The devices device `c` exchanges barrier signals with. -/
def peers (c : Dev nD) : Finset (Dev nD) := Finset.univ.filter fun e => near c e = true

theorem mem_outs {c : Dev nD} {t : T} : t ∈ outs c ↔ sends c t = true := by simp [outs]
theorem mem_ins {c : Dev nD} {t : T} : t ∈ ins c ↔ gets c t = true := by simp [ins]
theorem mem_peers {c e : Dev nD} : e ∈ peers c ↔ near c e = true := by simp [peers]

/-! ## Which sources an arrival provides -/

/-- The quarter arriving by a copy up or down is the source of five kinds of copies, so its ownership is cut
    into five shares, one per kind; of a quarter arriving from the x peer the second piece, of one from the y
    peer the first piece, is the source of one crossing copy. -/
def feeds (t : T) : Finset T :=
  Finset.univ.filter fun u => (u.val % 4 == t.val % 4 &&
    match t.val / 4 with
    | 0 | 1 => big u
    | 2 => u.val / 4 == 5
    | 3 => u.val / 4 == 4
    | _ => false) = true

/-- The sources device `c` has from the start: the quarter of its own block at its own `(x, y)`. -/
def feeds0 (c : Dev nD) : Finset T := Finset.univ.filter fun u => u.val % 4 = c.val % 4 ∧ big u = true

/-- All the sources device `c` has in the end. -/
def allSrc (c : Dev nD) : Finset T := Finset.univ.filter fun u => ¬ (u.val % 4 = c.val % 4 ∧ big u = false)

/-! ## The steps -/

/-- A step of the kernel: a signal (of the first handshake's semaphore or, `true`, the second's) to a device, a
    wait on that semaphore for a number of units, a remote copy of a quarter (`true`) or piece of the output at
    an offset with a send and a receive semaphore to a device, a wait on a copy semaphore for what a quarter or
    piece is worth. -/
inductive Op where
  | sig (snd : Bool) (d : ℕ)
  | waitS (snd : Bool) (n : ℕ)
  | send (b : Bool) (off : Fin 2 → ℕ) (qs qr d : ℕ)
  | waitD (b : Bool) (off : Fin 2 → ℕ) (q : ℕ)

/-- The steps `l` under a condition. -/
def on (p : Prop) [Decidable p] (l : List Op) : List Op := if p then l else []

/-- Whether the device has a neighbour up the z axis, as the kernel computes it; -/
def hasUp (c : Dev nD) : BitVec 1 := Scalar.cmpi .slt (Scalar.remsi (Scalar.divsi (Dev.word c) 1#32) 4#32) 3#32
/-- down the z axis; -/
def hasDn (c : Dev nD) : BitVec 1 := Scalar.cmpi .sgt (Scalar.remsi (Scalar.divsi (Dev.word c) 1#32) 4#32) 0#32
/-- whether it has both; -/
def midC (c : Dev nD) : BitVec 1 := Scalar.cmpi .ne (Scalar.extui (Scalar.andi (hasUp c) (hasDn c)) : BitVec 32) 0#32
/-- whether it lacks one. -/
def endC (c : Dev nD) : BitVec 1 := Scalar.cmpi .ne (Scalar.extui (Scalar.xori (Scalar.andi (hasUp c) (hasDn c)) 1#1) : BitVec 32) 0#32

/-- Statement run 16: the rest of the first handshake and the first copies up and down the z axis. -/
def ops16 (c : Dev nD) : List Op :=
  .sig false (k0_dev2 c) :: .sig false (k0_dev3 c) :: (on (k0_cond1 c = 1#1)
      [.sig false (k0_dev4 c)] ++ (on (k0_cond2 c = 1#1)
      [.sig false (k0_dev5 c)] ++ (on (midC c = 1#1)
      [.waitS false 5] ++ (on (endC c = 1#1)
      [.waitS false 4] ++ (on (k0_cond5 c = 1#1)
      [.send true (k0_off3 c) (2 + k0_off2 c 0) (6 + k0_off2 c 0) (k0_dev6 c)] ++ (on (k0_cond6 c = 1#1)
      [.send true (k0_off5 c) (10 + k0_off4 c 0) (14 + k0_off4 c 0) (k0_dev7 c)] ++ []))))))

/-- Statement run 17: first hop received and passed on to the x and y peers; second hop sent and received. -/
def ops17 (c : Dev nD) : List Op :=
  on (k0_cond7 c = 1#1)
      [.waitD true (k0_off7 c) (6 + k0_off6 c 0),
        .send true (k0_off7 c) (18 + k0_off6 c 0) (22 + k0_off6 c 0) (k0_dev8 c),
        .send true (k0_off7 c) (26 + k0_off6 c 0) (30 + k0_off6 c 0) (k0_dev9 c)] ++ (on (k0_cond8 c = 1#1)
      [.waitD true (k0_off9 c) (14 + k0_off8 c 0),
        .send true (k0_off9 c) (18 + k0_off8 c 0) (22 + k0_off8 c 0) (k0_dev10 c),
        .send true (k0_off9 c) (26 + k0_off8 c 0) (30 + k0_off8 c 0) (k0_dev11 c)] ++ (on (k0_cond9 c = 1#1)
      [.send true (k0_off11 c) (2 + k0_off10 c 0) (6 + k0_off10 c 0) (k0_dev12 c)] ++ (on (k0_cond10 c = 1#1)
      [.send true (k0_off13 c) (10 + k0_off12 c 0) (14 + k0_off12 c 0) (k0_dev13 c)] ++ (on (k0_cond11 c = 1#1)
      [.waitD true (k0_off15 c) (6 + k0_off14 c 0),
        .send true (k0_off15 c) (18 + k0_off14 c 0) (22 + k0_off14 c 0) (k0_dev14 c),
        .send true (k0_off15 c) (26 + k0_off14 c 0) (30 + k0_off14 c 0) (k0_dev15 c)] ++ (on (k0_cond12 c = 1#1)
      [.waitD true (k0_off17 c) (14 + k0_off16 c 0),
        .send true (k0_off17 c) (18 + k0_off16 c 0) (22 + k0_off16 c 0) (k0_dev16 c),
        .send true (k0_off17 c) (26 + k0_off16 c 0) (30 + k0_off16 c 0) (k0_dev17 c)] ++ [])))))

/-- Statement run 18: third hop, the copy to the diagonal peer, and the first crossings of what the x and y peers sent. -/
def ops18 (c : Dev nD) : List Op :=
  on (k0_cond13 c = 1#1)
      [.send true (k0_off19 c) (2 + k0_off18 c 0) (6 + k0_off18 c 0) (k0_dev18 c)] ++ (on (k0_cond14 c = 1#1)
      [.send true (k0_off21 c) (10 + k0_off20 c 0) (14 + k0_off20 c 0) (k0_dev19 c)] ++ (on (k0_cond15 c = 1#1)
      [.waitD true (k0_off23 c) (6 + k0_off22 c 0),
        .send true (k0_off23 c) (18 + k0_off22 c 0) (22 + k0_off22 c 0) (k0_dev20 c),
        .send true (k0_off23 c) (26 + k0_off22 c 0) (30 + k0_off22 c 0) (k0_dev21 c),
        .send true (k0_off23 c) (50 + k0_off22 c 0) (54 + k0_off22 c 0) (k0_dev22 c)] ++ (on (k0_cond16 c = 1#1)
      [.waitD true (k0_off25 c) (14 + k0_off24 c 0),
        .send true (k0_off25 c) (18 + k0_off24 c 0) (22 + k0_off24 c 0) (k0_dev23 c),
        .send true (k0_off25 c) (26 + k0_off24 c 0) (30 + k0_off24 c 0) (k0_dev24 c),
        .send true (k0_off25 c) (50 + k0_off24 c 0) (54 + k0_off24 c 0) (k0_dev25 c)] ++ (on (k0_cond17 c = 1#1)
      [.waitD true (k0_off27 c) (30 + k0_off26 c 0),
        .send false (k0_off28 c) (34 + k0_off26 c 0) (38 + k0_off26 c 0) (k0_dev26 c),
        .waitD true (k0_off27 c) (22 + k0_off26 c 0),
        .send false (k0_off29 c) (42 + k0_off26 c 0) (46 + k0_off26 c 0) (k0_dev27 c)] ++ (on (k0_cond18 c = 1#1)
      [.waitD true (k0_off31 c) (30 + k0_off30 c 0),
        .send false (k0_off32 c) (34 + k0_off30 c 0) (38 + k0_off30 c 0) (k0_dev28 c),
        .waitD true (k0_off31 c) (22 + k0_off30 c 0),
        .send false (k0_off33 c) (42 + k0_off30 c 0) (46 + k0_off30 c 0) (k0_dev29 c)] ++ [])))))

/-- Statement run 19: the other crossings and the first of the crossed pieces received. -/
def ops19 (c : Dev nD) : List Op :=
  on (k0_cond19 c = 1#1)
      [.waitD true (k0_off35 c) (30 + k0_off34 c 0),
        .send false (k0_off36 c) (34 + k0_off34 c 0) (38 + k0_off34 c 0) (k0_dev30 c),
        .waitD true (k0_off35 c) (22 + k0_off34 c 0),
        .send false (k0_off37 c) (42 + k0_off34 c 0) (46 + k0_off34 c 0) (k0_dev31 c)] ++ (on (k0_cond20 c = 1#1)
      [.waitD true (k0_off39 c) (30 + k0_off38 c 0),
        .send false (k0_off40 c) (34 + k0_off38 c 0) (38 + k0_off38 c 0) (k0_dev32 c),
        .waitD true (k0_off39 c) (22 + k0_off38 c 0),
        .send false (k0_off41 c) (42 + k0_off38 c 0) (46 + k0_off38 c 0) (k0_dev33 c)] ++ (on (k0_cond21 c = 1#1)
      [.waitD true (k0_off43 c) (30 + k0_off42 c 0),
        .waitD true (k0_off43 c) (22 + k0_off42 c 0)] ++ (on (k0_cond22 c = 1#1)
      [.waitD true (k0_off45 c) (30 + k0_off44 c 0),
        .waitD true (k0_off45 c) (22 + k0_off44 c 0)] ++ (on (k0_cond23 c = 1#1)
      [.waitD false (k0_off47 c) (38 + k0_off46 c 0),
        .waitD false (k0_off48 c) (46 + k0_off46 c 0)] ++ (on (k0_cond24 c = 1#1)
      [.waitD false (k0_off50 c) (38 + k0_off49 c 0),
        .waitD false (k0_off51 c) (46 + k0_off49 c 0)] ++ [])))))

/-- Statement run 20: the last receives and the first send wait. -/
def ops20 (c : Dev nD) : List Op :=
  on (k0_cond25 c = 1#1)
      [.waitD false (k0_off53 c) (38 + k0_off52 c 0),
        .waitD false (k0_off54 c) (46 + k0_off52 c 0)] ++ (on (k0_cond26 c = 1#1)
      [.waitD false (k0_off56 c) (38 + k0_off55 c 0),
        .waitD false (k0_off57 c) (46 + k0_off55 c 0)] ++ (on (k0_cond27 c = 1#1)
      [.waitD true (k0_off59 c) (54 + k0_off58 c 0)] ++ (on (k0_cond28 c = 1#1)
      [.waitD true (k0_off61 c) (54 + k0_off60 c 0)] ++ (on (k0_cond29 c = 1#1)
      [.waitD true (k0_off63 c) (2 + k0_off62 c 0)] ++ []))))

/-- Statement run 21: the send waits of the z copies, and of the x and y copies of blocks 0 and 1. -/
def ops21 (c : Dev nD) : List Op :=
  on (k0_cond30 c = 1#1)
      [.waitD true (k0_off65 c) (10 + k0_off64 c 0)] ++ (on (k0_cond31 c = 1#1)
      [.waitD true (k0_off67 c) (2 + k0_off66 c 0)] ++ (on (k0_cond32 c = 1#1)
      [.waitD true (k0_off69 c) (10 + k0_off68 c 0)] ++ (on (k0_cond33 c = 1#1)
      [.waitD true (k0_off71 c) (2 + k0_off70 c 0)] ++ (on (k0_cond34 c = 1#1)
      [.waitD true (k0_off73 c) (10 + k0_off72 c 0)] ++ (on (k0_cond35 c = 1#1)
      [.waitD true (k0_off74 c) (18 + 0),
        .waitD true (k0_off74 c) (26 + 0)] ++ (on (k0_cond36 c = 1#1)
      [.waitD true (k0_off75 c) (18 + 1),
        .waitD true (k0_off75 c) (26 + 1)] ++ []))))))

/-- Statement run 22: the send waits of blocks 2 and 3 and of the crossed pieces. -/
def ops22 (c : Dev nD) : List Op :=
  on (k0_cond37 c = 1#1)
      [.waitD true (k0_off76 c) (18 + 2),
        .waitD true (k0_off76 c) (26 + 2)] ++ (on (k0_cond38 c = 1#1)
      [.waitD true (k0_off77 c) (18 + 3),
        .waitD true (k0_off77 c) (26 + 3)] ++ (on (k0_cond39 c = 1#1)
      [.waitD false (k0_off79 c) (34 + k0_off78 c 0),
        .waitD false (k0_off80 c) (42 + k0_off78 c 0)] ++ (on (k0_cond40 c = 1#1)
      [.waitD false (k0_off82 c) (34 + k0_off81 c 0),
        .waitD false (k0_off83 c) (42 + k0_off81 c 0)] ++ (on (k0_cond41 c = 1#1)
      [.waitD false (k0_off85 c) (34 + k0_off84 c 0),
        .waitD false (k0_off86 c) (42 + k0_off84 c 0)] ++ (on (k0_cond42 c = 1#1)
      [.waitD false (k0_off88 c) (34 + k0_off87 c 0),
        .waitD false (k0_off89 c) (42 + k0_off87 c 0)] ++ [])))))

/-- Statement run 23: the send waits of the diagonal copies, and the second handshake's first signals. -/
def ops23 (c : Dev nD) : List Op :=
  on (k0_cond43 c = 1#1)
      [.waitD true (k0_off91 c) (50 + k0_off90 c 0)] ++ (on (k0_cond44 c = 1#1)
      [.waitD true (k0_off93 c) (50 + k0_off92 c 0)] ++ [.sig true (k0_dev34 c), .sig true (k0_dev35 c), .sig true (k0_dev36 c)])

/-- The second handshake's remaining signals and its wait. -/
def opsEnd (c : Dev nD) : List Op :=
  on (k0_cond45 c = 1#1) [.sig true (k0_dev37 c)] ++ (on (k0_cond46 c = 1#1) [.sig true (k0_dev38 c)]
    ++ (on (midC c = 1#1) [.waitS true 5] ++ (on (endC c = 1#1) [.waitS true 4] ++ [])))

/-- All the steps of device `c` after its own block is stored. -/
def ops (c : Dev nD) : List Op :=
  .sig false (k0_dev1 c) :: (ops16 c ++ (ops17 c ++ (ops18 c ++ (ops19 c ++ (ops20 c ++ (ops21 c ++ (ops22 c ++ (ops23 c ++ opsEnd c))))))))

/-! ## The bookkeeping -/

/-- What device `c` has yet to do and what it holds: the devices it has yet to signal in each handshake, whether it
    has waited for each; the copies not yet sent, the landing places at other devices in hand, the copies in flight,
    the sources in hand; the copies yet to be received and those received; the cells (`cellNo`) waited for. -/
structure St where
  b1 : Finset (Dev nD)
  b2 : Finset (Dev nD)
  w1 : Bool
  w2 : Bool
  uns : Finset T
  slt : Finset T
  fly : Finset T
  src : Finset T
  rcp : Finset T
  rcd : Finset T
  dn : Finset (Fin 58)

/-- The cells a device waits on are numbered: the copy semaphores, without the two staging ones, first, then the two
    handshakes' semaphores. -/
def cellNo (q : ℕ) : Fin 58 := ⟨(q - 2) % 58, Nat.mod_lt _ (by decide)⟩

/-- The first handshake's cell and the second's. -/
abbrev cellA : Fin 58 := 56
abbrev cellB : Fin 58 := 57

/-- Before the first step. -/
def St.init (c : Dev nD) : St :=
  ⟨peers c, peers c, false, false, outs c, ∅, ∅, feeds0 c, ins c, ∅, ∅⟩

/-- After the last. -/
def St.final (c : Dev nD) (s : St) : Prop :=
  s.b1 = ∅ ∧ s.b2 = ∅ ∧ s.w1 = true ∧ s.w2 = true ∧ s.uns = ∅ ∧ s.slt = ∅ ∧ s.fly = ∅ ∧ s.src = allSrc c ∧ s.rcp = ∅
    ∧ s.rcd = ins c ∧ cellA ∈ s.dn ∧ cellB ∈ s.dn ∧ (∀ t ∈ outs c, cellNo (sIdx t) ∈ s.dn) ∧ (∀ t ∈ ins c, cellNo (rIdx t) ∈ s.dn)

instance (c : Dev nD) (s : St) : Decidable (s.final c) := by unfold St.final; infer_instance

/-- The offset of a step's view is `row` rows down and at column 0. -/
def offAt (off : Fin 2 → ℕ) (r : ℕ) : Prop := off 0 = r ∧ off 1 = 0
instance (off : Fin 2 → ℕ) (r : ℕ) : Decidable (offAt off r) := by unfold offAt; infer_instance

/-- When a step may be taken. -/
def may (c : Dev nD) (s : St) : Op → Prop
  | .sig false d => ∃ h : d < nD, (⟨d, h⟩ : Dev nD) ∈ s.b1
  | .sig true d => ∃ h : d < nD, (⟨d, h⟩ : Dev nD) ∈ s.b2
  | .waitS false n => n = (peers c).card ∧ s.w1 = false ∧ s.b1 = ∅ ∧ s.slt = ∅ ∧ s.uns = outs c ∧ cellA ∉ s.dn
  | .waitS true n => n = (peers c).card ∧ s.w2 = false ∧ s.b1 = ∅ ∧ s.b2 = ∅ ∧ s.uns = ∅ ∧ cellB ∉ s.dn
  | .send b off qs qr d =>
    let t := tOf qs
    qs = sIdx t ∧ qr = rIdx t ∧ d = dstN c t ∧ offAt off (row c t) ∧ b = big t ∧ sends c t = true
      ∧ t ∈ s.uns ∧ t ∈ s.slt ∧ t ∈ s.src ∧ t ∉ s.fly
  | .waitD b off q =>
    let t := tOf q
    b = big t ∧ off 0 + rows b ≤ 2048 ∧ off 1 = 0 ∧ s.b1 = ∅ ∧ cellNo q ∉ s.dn ∧
      if isR q then q = rIdx t ∧ t ∈ s.rcp ∧ t ∉ s.rcd ∧ gets c t = true ∧ Disjoint s.src (feeds t) ∧ ∀ u ∈ s.uns, rank c t < rank (dst c u) u
      else q = sIdx t ∧ t ∈ s.fly ∧ t ∉ s.src ∧ sends c t = true

instance (c : Dev nD) (s : St) (o : Op) : Decidable (may c s o) := by
  rcases o with ⟨_ | _, _⟩ | ⟨_ | _, _⟩ | _ | _ <;> dsimp only [may] <;> infer_instance

/-- What a step leaves. -/
def nxt (c : Dev nD) (s : St) : Op → St
  | .sig false d => { s with b1 := s.b1.filter fun e => e.val ≠ d }
  | .sig true d => { s with b2 := s.b2.filter fun e => e.val ≠ d }
  | .waitS false _ => { s with w1 := true, slt := outs c, dn := insert cellA s.dn }
  | .waitS true _ => { s with w2 := true, dn := insert cellB s.dn }
  | .send _ _ qs _ _ =>
    let t := tOf qs
    { s with uns := s.uns.erase t, slt := s.slt.erase t, src := s.src.erase t, fly := insert t s.fly }
  | .waitD _ _ q =>
    let t := tOf q
    if isR q then { s with rcp := s.rcp.erase t, rcd := insert t s.rcd, src := s.src ∪ feeds t, dn := insert (cellNo q) s.dn }
    else { s with fly := s.fly.erase t, src := insert t s.src, dn := insert (cellNo q) s.dn }

/-- Every step of the list may be taken in turn, and the end is reached. -/
def okFrom (c : Dev nD) : St → List Op → Prop
  | s, [] => s.final c
  | s, o :: l => may c s o ∧ okFrom c (nxt c s o) l

instance okDec (c : Dev nD) : (s : St) → (l : List Op) → Decidable (okFrom c s l)
  | s, [] => by dsimp only [okFrom]; infer_instance
  | s, o :: l => by
    dsimp only [okFrom]
    exact @instDecidableAnd _ _ _ (okDec c (nxt c s o) l)

/-- Every device's list of steps runs through. -/
theorem plan_ok : ∀ c : Dev nD, okFrom c (St.init c) (ops c) := by decide +kernel

end Cert.KernelIdeal.Gather
-- ==== Proof.Runs.lean ====
/-
Programs as lists of steps: `Runs l p` says that the program `p` takes, whatever the machine answers, the steps `l` in
order. The offsets of the views and of the semaphores stay the printed ones.
-/
module

public import proofs.«01_k».proof.Proof.Plan
public import proofs.«01_k».proof.Proof.Gen.KernelIdeal.Skeleton
public import Idealize.ShloMosaic.Lib.Pointwise.Reshape

@[expose] public section

noncomputable section

namespace Cert.KernelIdeal.Gather

open Idealize.ShloMosaic Idealize.SL.Sem Cert.KernelIdeal Cert.KernelIdeal.Gen

variable {F : FTy → Type} [FloatOps F]

/-- The shape of a quarter or of a piece. -/
def shp (b : Bool) : Shape := ⟨2, ![rows b, 512]⟩

/-- The view of the output's staging buffer that has `rows b` rows from an offset. -/
abbrev cut (b : Bool) (off : Fin 2 → ℕ) (h : ∀ i, off i + (shp b).size i ≤ S2048x512.size i) : Memref sig .tc .vmem (shp b) .f32 :=
  (Memref.whole cc0_stg1_0).slice (Rect.unit (s := S2048x512) off (shp b).size h) (fun _ => rfl)

/-- The semaphore of the first handshake, and of the second. -/
def hand (snd : Bool) : Sem sig := if snd then (1 : Fin 2) else (0 : Fin 2)

/-- Programs of a core over the float values `F`. -/
abbrev Prg (F : FTy → Type) (α : Type) : Type 1 := Prog (TpuEff nD τ sig (Elt F) Λ₀ .tc) α

/-- The program takes the steps `l`. -/
inductive Runs {α : Type} : List Op → Prg F α → Prop
  | ret (r : α) : Runs [] (.ret r)
  | signal (snd : Bool) (d : ℕ) (h : d < nD) {s : Sem sig} (hs : s = hand snd) {k : PUnit → Prg F α} {l : List Op} :
    Runs l (k ⟨⟩) → Runs (.sig snd d :: l) (.op (.semSignal ((⟨d, h⟩ : Dev nD), .tc) s ((1 : ℕ) : ℤ)) k)
  | waitS (snd : Bool) (n : ℕ) {s : Sem sig} (hs : s = hand snd) {k : PUnit → Prg F α} {l : List Op} :
    Runs l (k ⟨⟩) → Runs (.waitS snd n :: l) (.op (.semWait s (n : ℤ)) k)
  | send (b : Bool) (off : Fin 2 → ℕ) (h h' : ∀ i, off i + (shp b).size i ≤ S2048x512.size i) (qs qr : DmaSem sig) {ns nr : ℕ} (hqs : qs.val = ns) (hqr : qr.val = nr)
    (d : ℕ) (hd : d < nD) {w : (cut b off h).view.WordExact} {w' : (cut b off h').view.WordExact} {hsc : (cut b off h').view.ref.isScScratch = false}
    {ht : DmaTarget.Typed .vmem (.dma qr) (.remote (Dev.tc (⟨d, hd⟩ : Dev nD)) (cut b off h') (.dma qs) hsc)} {k : PUnit → Prg F α} {l : List Op} :
    Runs l (k ⟨⟩) → Runs (.send b off ns nr d :: l) (.op (.enqueueDma (cut b off h) (.remote (Dev.tc (⟨d, hd⟩ : Dev nD)) (cut b off h') (.dma qs) hsc) (.dma qr) w w' ht) k)
  | waitD (b : Bool) (off : Fin 2 → ℕ) (h h' : ∀ i, off i + (shp b).size i ≤ S2048x512.size i) (q : DmaSem sig) {n : ℕ} (hq : q.val = n)
    {w : (cut b off h').view.WordExact} {w' : (cut b off h).view.WordExact} {k : PUnit → Prg F α} {l : List Op} :
    Runs l (k ⟨⟩) → Runs (.waitD b off n :: l) (.op (.waitDma2 q (cut b off h') (cut b off h) w w') k)

/-- The semaphore that a slice of an array of four picks. -/
abbrev pick (base : ℕ) (hb : base + S4.numel ≤ 58) (o : Fin 1 → ℕ) (h : ∀ i, o i + S1.size i ≤ S4.size i) (hq : S1.Squeezes S_) : DmaSem sig :=
  ((((SemArray.consecutive base S4 hb).slice (Rect.unit (s := S4) o S1.size h)).squeeze S_ hq).sem : Fin 58)

/-- Its number. -/
theorem pick_val (base : ℕ) (hb : base + S4.numel ≤ 58) (o : Fin 1 → ℕ) (h : ∀ i, o i + S1.size i ≤ S4.size i) (hq : S1.Squeezes S_) :
    (pick base hb o h hq).val = base + o 0 := by
  show base + (S4.rowMajor _).val = base + o 0
  rw [Shape.rowMajor_val_one]
  show base + (o 0 + 1 * (Shape.reshapeEquiv hq.numel_eq _ 0).val) = base + o 0
  have h := (Shape.reshapeEquiv hq.numel_eq (fun i : Fin 0 => i.elim0) (0 : Fin 1)).isLt
  have h1 : S1.size 0 = 1 := rfl
  omega

namespace Runs

variable {α β : Type}

/-- Steps one after the other. -/
theorem bind {p : Prg F α} {k : α → Prg F β} {l l' : List Op} (hp : Runs l p) (hk : ∀ r, Runs l' (k r)) :
    Runs (l ++ l') (p >>= k) := by
  induction hp with
  | ret r => exact hk r
  | signal snd d h hs _ ih => exact .signal snd d h hs ih
  | waitS snd n hs _ ih => exact .waitS snd n hs ih
  | send b off h h' qs qr hqs hqr d hd _ ih => exact .send b off h h' qs qr hqs hqr d hd ih
  | waitD b off h h' q hq _ ih => exact .waitD b off h h' q hq ih

/-- One step by a first program, then others. -/
theorem one {p : Prg F α} {k : α → Prg F β} {o : Op} {l : List Op} (hp : Runs [o] p) (hk : ∀ r, Runs l (k r)) : Runs (o :: l) (p >>= k) := hp.bind hk

/-- Two steps by a first program, then others. -/
theorem two {p : Prg F α} {k : α → Prg F β} {o o' : Op} {l : List Op} (hp : Runs [o, o'] p) (hk : ∀ r, Runs l (k r)) : Runs (o :: o' :: l) (p >>= k) := hp.bind hk

/-- An answer handed on at once. -/
theorem ofRet {a : α} {k : α → Prg F β} {l : List Op} (h : Runs l (k a)) : Runs l (Prog.bind (.ret a) k) := h

/-- Steps under a condition, then others. -/
theorem cond {p : Prop} [Decidable p] {A : p → Prg F α} {R : Prg F α} {l₁ l : List Op}
    (hR : Runs l R) (hA : Runs l R → ∀ h, Runs (l₁ ++ l) (A h)) : Runs (on p l₁ ++ l) (dite p A fun _ => R) := by
  unfold on
  by_cases h : p
  · rw [dif_pos h, if_pos h]; exact hA hR h
  · rw [dif_neg h, if_neg h]; exact hR

/-- One step under a condition, then others. -/
theorem cond1 {p : Prop} [Decidable p] {A : p → Prg F α} {R : Prg F α} {o₁ : Op} {l : List Op}
    (hR : Runs l R) (hA : Runs l R → ∀ h, Runs (o₁ :: l) (A h)) : Runs (on p [o₁] ++ l) (dite p A fun _ => R) := cond hR hA

/-- Two steps under a condition, then others. -/
theorem cond2 {p : Prop} [Decidable p] {A : p → Prg F α} {R : Prg F α} {o₁ o₂ : Op} {l : List Op}
    (hR : Runs l R) (hA : Runs l R → ∀ h, Runs (o₁ :: o₂ :: l) (A h)) : Runs (on p [o₁, o₂] ++ l) (dite p A fun _ => R) := cond hR hA

/-- Three steps under a condition, then others. -/
theorem cond3 {p : Prop} [Decidable p] {A : p → Prg F α} {R : Prg F α} {o₁ o₂ o₃ : Op} {l : List Op}
    (hR : Runs l R) (hA : Runs l R → ∀ h, Runs (o₁ :: o₂ :: o₃ :: l) (A h)) : Runs (on p [o₁, o₂, o₃] ++ l) (dite p A fun _ => R) := cond hR hA

/-- Four steps under a condition, then others. -/
theorem cond4 {p : Prop} [Decidable p] {A : p → Prg F α} {R : Prg F α} {o₁ o₂ o₃ o₄ : Op} {l : List Op}
    (hR : Runs l R) (hA : Runs l R → ∀ h, Runs (o₁ :: o₂ :: o₃ :: o₄ :: l) (A h)) : Runs (on p [o₁, o₂, o₃, o₄] ++ l) (dite p A fun _ => R) := cond hR hA

/-- A copy of a quarter or piece by semaphores picked from two arrays, then others. -/
theorem put (b : Bool) {off : Fin 2 → ℕ} {h h' : ∀ i, off i + (shp b).size i ≤ S2048x512.size i} {m n : ℕ} {hm hn} {o : Fin 1 → ℕ} {ho ho'} {hq hq'} {d : ℕ} {hd : d < nD}
    {w : (cut b off h).view.WordExact} {w' : (cut b off h').view.WordExact} {hsc : (cut b off h').view.ref.isScScratch = false}
    {ht : DmaTarget.Typed .vmem (.dma (pick n hn o ho' hq')) (.remote (Dev.tc (⟨d, hd⟩ : Dev nD)) (cut b off h') (.dma (pick m hm o ho hq)) hsc)} {k : PUnit → Prg F α}
    {l : List Op} (H : Runs l (k ⟨⟩)) :
    Runs (.send b off (m + o 0) (n + o 0) d :: l)
      (Prog.op (.enqueueDma (cut b off h) (.remote (Dev.tc (⟨d, hd⟩ : Dev nD)) (cut b off h') (.dma (pick m hm o ho hq)) hsc) (.dma (pick n hn o ho' hq')) w w' ht) k) :=
  .send b off h h' _ _ (pick_val ..) (pick_val ..) d hd H

/-- A wait for a quarter or piece by a semaphore picked from an array, then others. -/
theorem got (b : Bool) {off : Fin 2 → ℕ} {h h' : ∀ i, off i + (shp b).size i ≤ S2048x512.size i} {m : ℕ} {hm} {o : Fin 1 → ℕ} {ho} {hq} {w : (cut b off h').view.WordExact} {w' : (cut b off h).view.WordExact} {k : PUnit → Prg F α} {l : List Op} (H : Runs l (k ⟨⟩)) :
    Runs (.waitD b off (m + o 0) :: l) (Prog.op (.waitDma2 (pick m hm o ho hq) (cut b off h') (cut b off h) w w') k) :=
  .waitD b off h h' _ (pick_val ..) H

end Runs

/-- The second handshake's semaphore is number 1. -/
theorem scoped_hand : (cc0_scoped0 : Sems sig S_).sem = hand true := by
  apply Fin.ext
  show 1 + (S_.rowMajor _).val = 1
  rw [rowMajor_val0]

end Cert.KernelIdeal.Gather

end
-- ==== Proof.Proto.lean ====
/-
The protocol of the all-gather: the cells devices wait on, the parts of the output's staging buffer as sets of
rows, what each cell's duty hands over, and what a device holds between two steps.
-/
module

public import proofs.«01_k».proof.Proof.Runs
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the protocol's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The semaphore of cell number `j`. -/
def semOf (j : Fin 58) : SemLoc sig :=
  if h : j.val < 56 then .dma (⟨j.val + 2, by omega⟩ : Fin 58) else .reg (⟨j.val - 56, by omega⟩ : Fin 2)

/-- Cell number `j` of device `c`. -/
abbrev cell (c : Dev nD) (j : Fin 58) : GSem nD τ sig := ((c : Thread nD τ), semOf j)

theorem semOf_injective : Function.Injective semOf := by
  intro i j h
  unfold semOf at h
  split at h <;> split at h
  · have := congrArg Fin.val (SemLoc.dma.inj h); simp only at this; exact Fin.ext (by omega)
  · cases h
  · cases h
  · have := congrArg Fin.val (SemLoc.reg.inj h); simp only at this; exact Fin.ext (by omega)

theorem cell_inj {c e : Dev nD} {i j : Fin 58} (h : cell c i = cell e j) : c = e ∧ i = j :=
  ⟨congrArg (fun g : GSem nD τ sig => g.1.1) h, semOf_injective (congrArg Prod.snd h)⟩

theorem semOf_dma {q : DmaSem sig} {n : ℕ} (hq : q.val = n) (h2 : 2 ≤ n) : semOf (cellNo n) = .dma q := by
  have hl : q.val < 58 := q.isLt
  have hv : (cellNo n).val = n - 2 := by show (n - 2) % 58 = n - 2; omega
  unfold semOf
  rw [dif_pos (by omega)]
  congr 1
  exact Fin.ext (by show (cellNo n).val + 2 = q.val; omega)

theorem semOf_hand (snd : Bool) : semOf (if snd then cellB else cellA) = .reg (hand snd) := by cases snd <;> rfl
theorem semOf_A : semOf cellA = .reg (0 : Fin 2) := rfl
theorem semOf_B : semOf cellB = .reg (1 : Fin 2) := rfl

/-- The cell a device waits on for its copy `t` having left, -/
abbrev sNo (t : T) : Fin 58 := cellNo (sIdx t)
/-- and for the copy `t` having arrived. -/
abbrev rNo (t : T) : Fin 58 := cellNo (rIdx t)

theorem sNo_val (t : T) : (sNo t).val + 2 = sIdx t := by
  have := sIdx_lt t
  show (sIdx t - 2) % 58 + 2 = sIdx t
  unfold sIdx at *; omega
theorem rNo_val (t : T) : (rNo t).val + 2 = rIdx t := by
  have := rIdx_lt t
  show (rIdx t - 2) % 58 + 2 = rIdx t
  unfold rIdx at *; omega

theorem two_le_sIdx (t : T) : 2 ≤ sIdx t := by unfold sIdx; omega
theorem two_le_rIdx (t : T) : 2 ≤ rIdx t := by unfold rIdx; omega

theorem semOf_sNo (t : T) : semOf (sNo t) = .dma (⟨sIdx t, sIdx_lt t⟩ : Fin 58) := semOf_dma rfl (two_le_sIdx t)
theorem semOf_rNo (t : T) : semOf (rNo t) = .dma (⟨rIdx t, rIdx_lt t⟩ : Fin 58) := semOf_dma rfl (two_le_rIdx t)

theorem rNo_injective : Function.Injective rNo := fun t u h => by
  have h' : rIdx t = rIdx u := by rw [← rNo_val, ← rNo_val, h]
  rw [← tOf_rIdx t, ← tOf_rIdx u, h']
theorem rNo_ne_A (t : T) : rNo t ≠ cellA := fun h => by
  have h1 := rNo_val t; have h2 := rIdx_lt t; rw [h] at h1
  have : (cellA : Fin 58).val = 56 := rfl
  omega
theorem rNo_ne_B (t : T) : rNo t ≠ cellB := fun h => by
  have h1 := rNo_val t; have h2 := rIdx_lt t; rw [h] at h1
  have : (cellB : Fin 58).val = 57 := rfl
  omega

/-- Every cell is a sender's, a receiver's or one of the two handshakes'. -/
theorem cell_cases : ∀ j : Fin 58, (∃ t, j = sNo t) ∨ (∃ t, j = rNo t) ∨ j = cellA ∨ j = cellB := by decide +kernel

/-- What a copy of a quarter or piece is worth on its semaphores. -/
def worth (b : Bool) : ℕ :=
  (cut b (fun _ => 0) (by cases b <;> intro i <;> fin_cases i <;> decide)).view.dmaCredit

theorem worth_eq (b : Bool) (off : Fin 2 → ℕ) (h) : (cut b off h).view.dmaCredit = worth b := rfl

theorem worth_pos (b : Bool) : 0 < worth b := View.dmaCredit_pos _ (by cases b <;> decide)

/-! ## Rows of the output -/

/-- The output's staging buffer on device `c`. -/
abbrev outLoc (c : Dev nD) : Loc nD τ sig := (c : Thread nD τ).loc cc0_stg1_0

/-- The contents of an output's staging buffer, of an input's. -/
abbrev OutBuf (F : FTy → Type) : Type := (cc0_stg1_0 : Ref sig .tc).ty.Contents (Elt F)
abbrev InBuf (F : FTy → Type) : Type := (cc0_stg0_0 : Ref sig .tc).ty.Contents (Elt F)

/-- The rows from `lo` on, `n` of them. -/
def rset (lo n : ℕ) : Finset S2048x512.Idx := Finset.univ.filter fun i => lo ≤ (i 0).val ∧ (i 0).val < lo + n

theorem mem_rset {lo n : ℕ} {i : S2048x512.Idx} : i ∈ rset lo n ↔ lo ≤ (i 0).val ∧ (i 0).val < lo + n := by simp [rset]

theorem rset_disjoint {a m b n : ℕ} (h : a + m ≤ b ∨ b + n ≤ a) : Disjoint (rset a m) (rset b n) :=
  Finset.disjoint_left.mpr fun i hi hj => by rw [mem_rset] at hi hj; omega

theorem rset_append (a m n : ℕ) : rset a m ∪ rset (a + m) n = rset a (m + n) := by
  ext i; rw [Finset.mem_union, mem_rset, mem_rset, mem_rset]; omega

/-- The elements of a step's view are its rows. -/
theorem cut_set (b : Bool) (off : Fin 2 → ℕ) (h) (h1 : off 1 = 0) : (cut b off h).view.set = rset (off 0) (rows b) := by
  show ((View.whole cc0_stg1_0).slice _).set = _
  rw [View.set_slice_whole]
  ext i
  refine (Rect.mem_set_unit (s := S2048x512)).trans ?_
  rw [mem_rset]
  constructor
  · intro hi
    exact hi 0
  · intro hi a
    fin_cases a
    · exact hi
    · have hlt : (i 1).val < 512 := (i 1).isLt
      exact ⟨show off 1 ≤ (i 1).val by omega, show (i 1).val < off 1 + 512 by omega⟩

/-! ## The gathered contents -/

/-- The device whose input device `c` has in the end in its `k`-th strip of 64 rows: itself in its own block, in another
    block the device of that block that stands at the strip's quarter. -/
def orgN (c k : ℕ) : ℕ := if k / 8 = c % 4 then c else at3 (k % 8 / 4) (k % 4 / 2) (k / 8)
def org (c : Dev nD) (k : ℕ) : Dev nD := ⟨orgN c k % 16, Nat.mod_lt _ (by decide)⟩

/-- Sender and receiver of a copy agree on where the rows it moves are from. -/
theorem org_dst : ∀ (c : Dev nD) (t : T) (k : Fin 32), sends c t = true → row c t ≤ 64 * k.val → 64 * k.val + 64 ≤ row c t + rows (big t) → org (dst c t) k = org c k := by
  decide +kernel
theorem row_mod : ∀ (c : Dev nD) (t : T), row c t % 64 = 0 ∧ rows (big t) % 64 = 0 := by decide +kernel
theorem org_own : ∀ (c : Dev nD) (k : Fin 32), k.val / 8 = c.val % 4 → org c k = c := by decide +kernel

variable (xs : Dev nD → InBuf F)

/-- The output device `c` ends with, the inputs being `xs`: row `r` is row `r % 512` of its origin's input. -/
def final (c : Dev nD) : OutBuf F :=
  fun i : S2048x512.Idx => xs (org c ((i 0).val / 64)) (fun a => ⟨(![(i 0).val % 512, (i 1).val] : Fin 2 → ℕ) a, by
    fin_cases a
    · exact Nat.mod_lt _ (by decide)
    · exact (i 1).isLt⟩ : S512x512.Idx)

theorem final_dst (c : Dev nD) (t : T) (h : sends c t = true) (i : S2048x512.Idx) (hi : i ∈ rset (row c t) (rows (big t))) :
    final xs (dst c t) i = final xs c i := by
  rw [mem_rset] at hi
  have hlt : (i 0).val < 2048 := (i 0).isLt
  have hm := row_mod c t
  have e := org_dst c t ⟨(i 0).val / 64, by omega⟩ h (by show row c t ≤ 64 * ((i 0).val / 64); omega) (by show 64 * ((i 0).val / 64) + 64 ≤ _; omega)
  unfold final
  rw [show org (dst c t) ((i 0).val / 64) = org c ((i 0).val / 64) from e]

/-! ## What is handed over -/

/-- The share of a source a copy reads with. The five kinds of copies of one quarter share it out; a crossing
    copy has its piece for itself. -/
def share (t : T) : PosShare TreeShare :=
  match t.val / 4 with
  | 0 => fullShare.left.left
  | 1 => fullShare.left.right
  | 2 => fullShare.right.left
  | 3 => fullShare.right.right.left
  | 6 => fullShare.right.right.right
  | _ => fullShare

/-- The rows of the copy `t` at device `c` as its sender, -/
abbrev outRows (c : Dev nD) (t : T) : Finset S2048x512.Idx := rset (row c t) (rows (big t))
/-- and as its receiver. -/
abbrev inRows (c : Dev nD) (t : T) : Finset S2048x512.Idx := rset (row (src c t) t) (rows (big t))

theorem inRows_dst (c : Dev nD) (t : T) (h : sends c t = true) : inRows (dst c t) t = outRows c t := by
  unfold inRows; rw [src_dst c t h]

/-- Rows of device `c`'s output at their final contents. -/
def has (c : Dev nD) (I : Finset S2048x512.Idx) (q : PosShare TreeShare) : sProp 𝕄 := outLoc c ↦[I]{q} final xs c

/-- The source of the copy `t` at device `c`. -/
def source (c : Dev nD) (t : T) : sProp 𝕄 := has xs c (outRows c t) (share t)
/-- The copy `t` having arrived at device `c`. -/
def landed (c : Dev nD) (t : T) : sProp 𝕄 := has xs c (inRows c t) fullShare
/-- The landing place of the copy `t` at device `c`, whatever it holds. -/
def place (c : Dev nD) (t : T) : sProp 𝕄 := iprop(∃ f : Buf (Elt F) (outLoc c), outLoc c ↦[inRows c t]{fullShare} f)
/-- What device `e`'s signal grants device `c`: the landing places at `e` of what `c` sends there. -/
def grant (c e : Dev nD) : sProp 𝕄 := bigSep ((outs c).filter fun t => dst c t = e) fun t => place (dst c t) t

/-- The rows of an arrival that are no copy's source. -/
def restRows (c : Dev nD) (t : T) : Finset S2048x512.Idx :=
  match t.val / 4 with
  | 0 | 1 => ∅
  | 2 => rset (row (src c t) t) 64
  | 3 => rset (row (src c t) t + 64) 64
  | _ => inRows c t
/-- What an arrival leaves beside the sources. -/
def spare (c : Dev nD) (t : T) : sProp 𝕄 := has xs c (restRows c t) fullShare

instance has_storable (c : Dev nD) (I) (q) : BI.Storable (upEmb : UEmb _ 𝕄) (has (F := F) xs c I q) := by unfold has; infer_instance
instance place_storable (c : Dev nD) (t : T) : BI.Storable (upEmb : UEmb _ 𝕄) (place (F := F) c t) := by unfold place; infer_instance
instance grant_storable (c e : Dev nD) : BI.Storable (upEmb : UEmb _ 𝕄) (grant (F := F) c e) := by unfold grant; infer_instance
instance source_storable (c : Dev nD) (t : T) : BI.Storable (upEmb : UEmb _ 𝕄) (source (F := F) xs c t) := by unfold source; infer_instance
instance landed_storable (c : Dev nD) (t : T) : BI.Storable (upEmb : UEmb _ 𝕄) (landed (F := F) xs c t) := by unfold landed; infer_instance

/-! ## The schedule -/

/-- The duties of a semaphore of device `c`: a handshake's are its peers; a copy's its one sender (named 0). -/
def dutiesAt (c : Dev nD) : SemLoc sig → Finset (Dev nD)
  | .reg _ => peers c
  | .dma q => if 2 ≤ q.val ∧ (if isR q.val then gets c (tOf q.val) else sends c (tOf q.val)) = true then {(0 : Fin 16)} else ∅

def amountAt : SemLoc sig → ℕ
  | .reg _ => 1
  | .dma q => worth (big (tOf q.val))

def payAt (c e : Dev nD) : SemLoc sig → sProp 𝕄
  | .reg s => if s = hand false then grant c e else iprop(emp)
  | .dma q => if isR q.val then landed xs c (tOf q.val) else source xs c (tOf q.val)

/-- One round. -/
def rd : Rounds.Schedule (GSem nD τ sig) (Dev nD) 𝕄 where
  duties g r := if r = 0 ∧ g.1.2 = .tc then dutiesAt g.1.1 g.2 else ∅
  unitless _ := False
  amount g _ _ := amountAt g.2
  payload g _ d := payAt xs g.1.1 d g.2
  amount_pos g _ _ _ := by
    rcases g with ⟨_, _ | _⟩
    · exact Nat.one_pos
    · exact worth_pos _

instance rd_storable (g : GSem nD τ sig) (r : ℕ) (d : Dev nD) : BI.Storable (upEmb : UEmb _ 𝕄) ((rd (F := F) xs).payload g r d) := by
  show BI.Storable upEmb (payAt xs g.1.1 d g.2)
  rcases g with ⟨_, _ | _⟩ <;> dsimp only [payAt] <;> split <;> infer_instance

section
variable (c e : Dev nD) (t : T)

theorem duties_hand (snd : Bool) : (rd (F := F) xs).duties ((c : Thread nD τ), .reg (hand snd)) 0 = peers c := by dsimp only [rd]; exact if_pos ⟨rfl, rfl⟩
theorem duties_A : (rd (F := F) xs).duties (cell c cellA) 0 = peers c := by dsimp only [rd]; exact if_pos ⟨rfl, rfl⟩
theorem duties_B : (rd (F := F) xs).duties (cell c cellB) 0 = peers c := by dsimp only [rd]; exact if_pos ⟨rfl, rfl⟩
theorem duties_s : (rd (F := F) xs).duties (cell c (sNo t)) 0 = if sends c t = true then {(0 : Fin 16)} else ∅ := by
  rw [cell, semOf_sNo]
  dsimp only [rd]
  refine (if_pos ⟨rfl, rfl⟩).trans ?_
  dsimp only [dutiesAt]
  rw [tOf_sIdx, isR_sIdx]
  simp only [two_le_sIdx t, true_and, Bool.false_eq_true, if_false]
theorem duties_r : (rd (F := F) xs).duties (cell c (rNo t)) 0 = if gets c t = true then {(0 : Fin 16)} else ∅ := by
  rw [cell, semOf_rNo]
  dsimp only [rd]
  refine (if_pos ⟨rfl, rfl⟩).trans ?_
  dsimp only [dutiesAt]
  rw [tOf_rIdx, isR_rIdx]
  simp only [two_le_rIdx t, true_and, if_true]
theorem duties_later (g : GSem nD τ sig) : ∀ r, 1 ≤ r → (rd (F := F) xs).duties g r = ∅ := fun r hr => if_neg fun h => by omega

theorem amount_A (d : Dev nD) : (rd (F := F) xs).amount (cell c cellA) 0 d = 1 := rfl
theorem amount_B (d : Dev nD) : (rd (F := F) xs).amount (cell c cellB) 0 d = 1 := rfl
theorem amount_s (d : Dev nD) : (rd (F := F) xs).amount (cell c (sNo t)) 0 d = worth (big t) := by
  show amountAt (semOf (sNo t)) = _
  rw [semOf_sNo]; dsimp only [amountAt]; rw [tOf_sIdx]
theorem amount_r (d : Dev nD) : (rd (F := F) xs).amount (cell c (rNo t)) 0 d = worth (big t) := by
  show amountAt (semOf (rNo t)) = _
  rw [semOf_rNo]; dsimp only [amountAt]; rw [tOf_rIdx]

theorem payload_A (d : Dev nD) : (rd (F := F) xs).payload (cell c cellA) 0 d = grant c d := rfl
theorem payload_B (d : Dev nD) : (rd (F := F) xs).payload (cell c cellB) 0 d = iprop(emp) := rfl
theorem payload_s (d : Dev nD) : (rd (F := F) xs).payload (cell c (sNo t)) 0 d = source xs c t := by
  show payAt xs c d (semOf (sNo t)) = _
  rw [semOf_sNo]; dsimp only [payAt]; rw [tOf_sIdx, isR_sIdx]; rfl
theorem payload_r (d : Dev nD) : (rd (F := F) xs).payload (cell c (rNo t)) 0 d = landed xs c t := by
  show payAt xs c d (semOf (rNo t)) = _
  rw [semOf_rNo]; dsimp only [payAt]; rw [tOf_rIdx, isR_rIdx]; rfl

theorem expect_A : (rd (F := F) xs).expect (cell c cellA) 0 = (peers c).card := by
  unfold Schedule.expect Schedule.amountOf
  rw [duties_A, Finset.sum_congr rfl fun d _ => amount_A xs c d, Finset.sum_const, smul_eq_mul, mul_one]
theorem expect_B : (rd (F := F) xs).expect (cell c cellB) 0 = (peers c).card := by
  unfold Schedule.expect Schedule.amountOf
  rw [duties_B, Finset.sum_congr rfl fun d _ => amount_B xs c d, Finset.sum_const, smul_eq_mul, mul_one]
theorem expect_s (h : sends c t = true) : (rd (F := F) xs).expect (cell c (sNo t)) 0 = worth (big t) := by
  unfold Schedule.expect Schedule.amountOf; rw [duties_s, if_pos h, Finset.sum_singleton, amount_s]
theorem expect_r (h : gets c t = true) : (rd (F := F) xs).expect (cell c (rNo t)) 0 = worth (big t) := by
  unfold Schedule.expect Schedule.amountOf; rw [duties_r, if_pos h, Finset.sum_singleton, amount_r]

theorem pays_A : bigSep ((rd (F := F) xs).duties (cell c cellA) 0 \ ∅) (fun d => (rd (F := F) xs).payload (cell c cellA) 0 d) = bigSep (peers c) (grant c) := by
  rw [Finset.sdiff_empty, duties_A]; rfl
theorem pays_s (h : sends c t = true) : bigSep ((rd (F := F) xs).duties (cell c (sNo t)) 0 \ ∅) (fun d => (rd (F := F) xs).payload (cell c (sNo t)) 0 d) = source xs c t := by
  rw [Finset.sdiff_empty, duties_s, if_pos h, bigSep_singleton, payload_s]
theorem pays_r (h : gets c t = true) : bigSep ((rd (F := F) xs).duties (cell c (rNo t)) 0 \ ∅) (fun d => (rd (F := F) xs).payload (cell c (rNo t)) 0 d) = landed xs c t := by
  rw [Finset.sdiff_empty, duties_r, if_pos h, bigSep_singleton, payload_r]

end

/-! ## What is owed, and the order of the waits -/

/-- What device `c` owes: a unit per signal not yet given, its worth per copy not yet sent. -/
def owing (c : Dev nD) (s : St) : CellTallies nD τ sig Unit :=
  ∑ e ∈ s.b1, tallyAt (cell e cellA) () 1 + ∑ e ∈ s.b2, tallyAt (cell e cellB) () 1 + ∑ t ∈ s.uns, tallyAt (cell (dst c t) (rNo t)) () (worth (big t))

def L (g : GSem nD τ sig) : Finset Unit := if g.1.2 = .tc then {()} else ∅
/-- The levels: the first handshake 1, the arrivals by rank, the second handshake 40, all else 0. -/
def lv (g : GSem nD τ sig) (_ : Unit) : ℕ :=
  match g.2 with
  | .reg s => if s = hand false then 1 else 40
  | .dma q => if 2 ≤ q.val ∧ isR q.val = true then rank g.1.1 (tOf q.val) else 0

theorem L_of_ne (g : GSem nD τ sig) (h : g.1.2 ≠ .tc) : L g = ∅ := if_neg h
theorem L_tc (c : Dev nD) (sm : SemLoc sig) : L ((c : Thread nD τ), sm) = {()} := if_pos rfl

theorem lv_A (c : Dev nD) : lv (cell c cellA) () = 1 := rfl
theorem lv_B (c : Dev nD) : lv (cell c cellB) () = 40 := rfl
theorem lv_r (c : Dev nD) (t : T) : lv (cell c (rNo t)) () = rank c t := by
  unfold lv cell; rw [semOf_rNo]; dsimp only; rw [tOf_rIdx, isR_rIdx, if_pos ⟨two_le_rIdx t, rfl⟩]
theorem lv_s (c : Dev nD) (t : T) : lv (cell c (sNo t)) () = 0 := by
  unfold lv cell; rw [semOf_sNo]; dsimp only; rw [isR_sIdx, if_neg fun h => Bool.false_ne_true h.2]
theorem lv_stage (c : Dev nD) (q : DmaSem sig) (h : q.val < 2) : lv ((c : Thread nD τ), .dma q) () = 0 := by
  unfold lv; dsimp only; rw [if_neg fun h' => by omega]

theorem rank_pos : ∀ (c : Dev nD) (t : T), 1 < rank c t ∧ rank c t < 40 := by decide +kernel

/-- Whatever is owed is owed to a cell of one of the three kinds. -/
theorem owing_pos {c : Dev nD} {s : St} {g : GSem nD τ sig} {u : Unit} (h : 0 < owing c s g u) :
    (∃ e ∈ s.b1, g = cell e cellA) ∨ (∃ e ∈ s.b2, g = cell e cellB) ∨ (∃ t ∈ s.uns, g = cell (dst c t) (rNo t)) := by
  by_contra hn
  simp only [not_or, not_exists, not_and] at hn
  obtain ⟨h1, h2, h3⟩ := hn
  have z {I : Type} (S : Finset I) (f : I → GSem nD τ sig) (n : I → ℕ) (hf : ∀ i ∈ S, ¬g = f i) : (∑ i ∈ S, tallyAt (f i) () (n i)) g u = 0 := by
    rw [Finset.sum_apply, Finsupp.finset_sum_apply]
    exact Finset.sum_eq_zero fun i hi => by rw [tallyAt_apply, if_neg fun h' => hf i hi h'.1]
  unfold owing at h
  rw [Pi.add_apply, Pi.add_apply, Finsupp.add_apply, Finsupp.add_apply, z _ _ _ h1, z _ _ _ h2, z _ _ _ h3] at h
  exact Nat.lt_irrefl 0 h

/-- A wait at a level below everything owed is allowed. -/
theorem mayWait (c : Dev nD) (s : St) (sm : SemLoc sig) (n : ℕ) (hn : lv ((c : Thread nD τ), sm) () ≤ n) (h1 : s.b1 = ∅ ∨ n < 1) (h2 : s.b2 = ∅ ∨ n < 40)
    (h3 : ∀ t ∈ s.uns, n < rank (dst c t) t) : (levAts L lv : sProp 𝕄) ⊢ MayWait (c : Thread nD τ) sm () (owing c s) :=
  MayOwe.of_cut (L := L) (lev := lv) n
    (fun p hp => by rw [Finset.mem_singleton.mp hp, L_tc]; exact Finset.mem_singleton_self _)
    (fun g u hg => by rcases owing_pos hg with ⟨e, _, rfl⟩ | ⟨e, _, rfl⟩ | ⟨t, _, rfl⟩ <;> exact Finset.mem_singleton_self _)
    (fun p hp => by rw [Finset.mem_singleton.mp hp]; exact hn)
    (fun g u hg => by
      rcases owing_pos hg with ⟨e, he, rfl⟩ | ⟨e, he, rfl⟩ | ⟨t, ht, rfl⟩
      · rcases h1 with h1 | h1
        · rw [h1] at he; exact absurd he (Finset.notMem_empty _)
        · exact h1
      · rcases h2 with h2 | h2
        · rw [h2] at he; exact absurd he (Finset.notMem_empty _)
        · exact h2
      · exact (h3 t ht).trans_eq (lv_r _ _).symm)

/-! ## What a device holds between steps -/

/-- The invariants of all cells at their names, that all cells have begun, and the levels: known to everyone. -/
def records (K : Dev nD × Fin 58 → ℕ) : sProp 𝕄 :=
  iprop((bigSep Finset.univ fun ck : Dev nD × Fin 58 => cellInv ER (rd xs) (K ck) (cell ck.1 ck.2))
    ∗ (bigSep Finset.univ fun ck : Dev nD × Fin 58 => reached ER (cell ck.1 ck.2) 0) ∗ (levAts L lv : sProp 𝕄))

instance records_persistent (K : Dev nD × Fin 58 → ℕ) : BI.Persistent (records (F := F) xs K) := by unfold records; infer_instance

theorem records_inv (K : Dev nD × Fin 58 → ℕ) (c : Dev nD) (j : Fin 58) : records xs K ⊢ cellInv ER (rd (F := F) xs) (K (c, j)) (cell c j) := by
  unfold records
  have h : (bigSep Finset.univ fun ck : Dev nD × Fin 58 => (cellInv ER (rd (F := F) xs) (K ck) (cell ck.1 ck.2) : sProp 𝕄)) ⊢ cellInv ER (rd (F := F) xs) (K (c, j)) (cell c j) :=
    bigSep_elim (Finset.mem_univ (c, j))
  iintro ⟨H, -⟩
  iapply h
  iexact H
theorem records_reached (K : Dev nD × Fin 58 → ℕ) (c : Dev nD) (j : Fin 58) : records (F := F) xs K ⊢ reached ER (cell c j) 0 := by
  unfold records
  have h : (bigSep Finset.univ fun ck : Dev nD × Fin 58 => (reached ER (cell ck.1 ck.2) 0 : sProp 𝕄)) ⊢ reached ER (cell c j) 0 :=
    bigSep_elim (Finset.mem_univ (c, j))
  iintro ⟨-, H, -⟩
  iapply h
  iexact H
theorem records_lev (K : Dev nD × Fin 58 → ℕ) : records (F := F) xs K ⊢ (levAts L lv : sProp 𝕄) := by
  unfold records; iintro ⟨-, -, H⟩; iexact H

/-- The token of device `c`'s signal to its peer `e` in each handshake, in the first with what it grants. -/
def tokA (c e : Dev nD) : sProp 𝕄 := iprop(⌜c ∈ peers e⌝ ∗ dutyTok ER (cell e cellA) 0 c ∗ grant e c)
def tokB (c e : Dev nD) : sProp 𝕄 := iprop(⌜c ∈ peers e⌝ ∗ dutyTok ER (cell e cellB) 0 c)
/-- The two tokens of device `c`'s copy `t`. -/
def tokT (c : Dev nD) (t : T) : sProp 𝕄 :=
  iprop(dutyTok ER (cell c (sNo t)) 0 (0 : Fin 16) ∗ dutyTok ER (cell (dst c t) (rNo t)) 0 (0 : Fin 16))
/-- The right to wait for a handshake. -/
def credH (c : Dev nD) (j : Fin 58) : sProp 𝕄 := cred (tallyAt (cell c j) () (peers c).card)
/-- The right to wait for the copy `t` having left, having arrived. -/
def credS (c : Dev nD) (t : T) : sProp 𝕄 := cred (tallyAt (cell c (sNo t)) () (worth (big t)))
def credR (c : Dev nD) (t : T) : sProp 𝕄 := cred (tallyAt (cell c (rNo t)) () (worth (big t)))
/-- Where device `c` is at cell `j`: past its round or at it. -/
def posAt (c : Dev nD) (dn : Finset (Fin 58)) (j : Fin 58) : sProp 𝕄 := atPos ER (cell c j) (if j ∈ dn then 1 else 0) ∅ 0
/-- What it owes, whatever it has waited for. -/
def debt (c : Dev nD) (s : St) : sProp 𝕄 := iprop(∃ W, owes (c : Thread nD τ) (owing c s) W)

/-- All that device `c` holds in the state `s` of its bookkeeping. -/
def Res (c : Dev nD) (s : St) : sProp 𝕄 :=
  iprop(bigSep s.b1 (tokA c) ∗ bigSep s.b2 (tokB c) ∗ (if s.w1 then emp else credH c cellA) ∗ (if s.w2 then emp else credH c cellB)
    ∗ bigSep s.uns (tokT c) ∗ bigSep s.slt (fun t => place (dst c t) t) ∗ bigSep s.fly (credS c) ∗ bigSep s.src (source xs c)
    ∗ bigSep s.rcp (credR c) ∗ bigSep s.rcd (spare xs c) ∗ bigSep Finset.univ (posAt c s.dn) ∗ debt c s)

end Cert.KernelIdeal.Gather

end
-- ==== Proof.Split.lean ====
/-
How the rows of an output divide: an arrival into sources of further copies and a spare part, a quarter into five
shares, the whole output into a device's own block and its arrivals.
-/
module

public import proofs.«01_k».proof.Proof.Proto

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → InBuf F)

/-! ## Collections -/

theorem all_insert {I : Type} [DecidableEq I] {s : Finset I} {i : I} (h : i ∉ s) (Φ : I → sProp 𝕄) :
    bigSep (insert i s) Φ = iprop(Φ i ∗ bigSep s Φ) := bigSep_insert h
theorem all_erase {I : Type} [DecidableEq I] {s : Finset I} {i : I} (h : i ∈ s) (Φ : I → sProp 𝕄) :
    bigSep s Φ = iprop(Φ i ∗ bigSep (s.erase i) Φ) := bigSep_erase h
theorem all_union {I : Type} [DecidableEq I] {s t : Finset I} (h : Disjoint s t) (Φ : I → sProp 𝕄) :
    bigSep (s ∪ t) Φ = iprop(bigSep s Φ ∗ bigSep t Φ) := bigSep_union h

/-- A collection over disjoint parts is the parts' collections. -/
theorem all_parts {I J : Type} [DecidableEq I] [DecidableEq J] (s : Finset J) (t : J → Finset I)
    (h : ∀ a ∈ s, ∀ b ∈ s, a ≠ b → Disjoint (t a) (t b)) (Φ : I → sProp 𝕄) :
    bigSep (s.biUnion t) Φ = bigSep s fun j => bigSep (t j) Φ := by
  induction s using Finset.induction_on with
  | empty => rfl
  | insert a s ha ih =>
    rw [Finset.biUnion_insert, all_insert ha, ← ih fun b hb d hd => h b (Finset.mem_insert_of_mem hb) d (Finset.mem_insert_of_mem hd)]
    exact all_union ((Finset.disjoint_biUnion_right _ _ _).mpr fun b hb =>
      h a (Finset.mem_insert_self _ _) b (Finset.mem_insert_of_mem hb) fun e => ha (e ▸ hb)) Φ

/-! ## Rows and shares held -/

theorem has_share (c : Dev nD) (I : Finset S2048x512.Idx) (q : PosShare TreeShare) :
    has (F := F) xs c I q = iprop(has xs c I q.left ∗ has xs c I q.right) :=
  have h := pointsTo_share (Name := ℕ) (U := UU) (Lvl := ℕ) (Ix := Unit) (Val := Elt F) (ℓ := outLoc c) (I := I) (f := final xs c) (PosShare.mem_left_op_right q)
  Entails.antisymm h.1 h.2

theorem has_union (c : Dev nD) {I J : Finset S2048x512.Idx} (h : Disjoint I J) (q : PosShare TreeShare) :
    has (F := F) xs c (I ∪ J) q = iprop(has xs c I q ∗ has xs c J q) :=
  have h := pointsTo_union (Name := ℕ) (U := UU) (Lvl := ℕ) (Ix := Unit) (Val := Elt F) (ℓ := outLoc c) (q := q) (f := final xs c) h
  Entails.antisymm h.1 h.2

theorem has_empty (c : Dev nD) (q : PosShare TreeShare) : has (F := F) xs c ∅ q = iprop(emp) := pointsTo_empty

/-- The copies whose source is a quarter of block `o`. -/
def quarter (o : Fin 4) : Finset T := Finset.univ.filter fun u => u.val % 4 = o.val ∧ big u = true

/-- The copy of kind `k` of block `o`. -/
abbrev copy (k : Fin 7) (o : Fin 4) : T := ⟨4 * k.val + o.val, by omega⟩

theorem quarter_eq : ∀ o : Fin 4, quarter o = {copy 0 o, copy 1 o, copy 2 o, copy 3 o, copy 6 o} := by decide
theorem quarter_apart : ∀ o : Fin 4, copy 0 o ∉ ({copy 1 o, copy 2 o, copy 3 o, copy 6 o} : Finset T) ∧ copy 1 o ∉ ({copy 2 o, copy 3 o, copy 6 o} : Finset T) ∧
    copy 2 o ∉ ({copy 3 o, copy 6 o} : Finset T) ∧ copy 3 o ∉ ({copy 6 o} : Finset T) := by decide

theorem share_quarter : ∀ o : Fin 4, share (copy 0 o) = fullShare.left.left ∧ share (copy 1 o) = fullShare.left.right ∧ share (copy 2 o) = fullShare.right.left ∧
    share (copy 3 o) = fullShare.right.right.left ∧ share (copy 6 o) = fullShare.right.right.right := by
  intro o; fin_cases o <;> exact ⟨rfl, rfl, rfl, rfl, rfl⟩

/-- A quarter is its five shares. -/
theorem has_quarter (c : Dev nD) (o : Fin 4) (I : Finset S2048x512.Idx) (hI : ∀ u ∈ quarter o, outRows c u = I) :
    has (F := F) xs c I fullShare = bigSep (quarter o) (source xs c) := by
  have e : bigSep (quarter o) (source (F := F) xs c) = bigSep (quarter o) (fun u => has xs c I (share u)) :=
    bigSep_congr fun u hu => by unfold source; rw [hI u hu]
  obtain ⟨s0, s1, s2, s3, s6⟩ := share_quarter o
  obtain ⟨a0, a1, a2, a3⟩ := quarter_apart o
  rw [e, quarter_eq, all_insert a0, all_insert a1, all_insert a2, all_insert a3,
    bigSep_singleton, s0, s1, s2, s3, s6, has_share xs c I fullShare, has_share xs c I fullShare.left, has_share xs c I fullShare.right, has_share xs c I fullShare.right.right]
  refine Entails.antisymm ?_ ?_
  · show (_ : sProp 𝕄) ⊢ _
    iintro ⟨⟨H0, H1⟩, H2, H3, H6⟩
    isplitl [H0]; · iexact H0
    isplitl [H1]; · iexact H1
    isplitl [H2]; · iexact H2
    isplitl [H3] <;> iassumption
  · show (_ : sProp 𝕄) ⊢ _
    iintro ⟨H0, H1, H2, H3, H6⟩
    isplitl [H0 H1]
    · isplitl [H0] <;> iassumption
    isplitl [H2]; · iexact H2
    isplitl [H3] <;> iassumption

/-! ## An arrival -/

theorem feeds_z : ∀ t : T, t.val / 4 < 2 → feeds t = quarter ⟨t.val % 4, Nat.mod_lt _ (by decide)⟩ := by decide
theorem feeds_x : ∀ t : T, t.val / 4 = 2 → feeds t = {copy 5 ⟨t.val % 4, Nat.mod_lt _ (by decide)⟩} := by decide
theorem feeds_y : ∀ t : T, t.val / 4 = 3 → feeds t = {copy 4 ⟨t.val % 4, Nat.mod_lt _ (by decide)⟩} := by decide
theorem feeds_no : ∀ t : T, 4 ≤ t.val / 4 → feeds t = ∅ := by decide
theorem feeds_row : ∀ (c : Dev nD) (t u : T), gets c t = true → u ∈ feeds t →
    rows (big u) = (if t.val / 4 < 2 then 128 else 64) ∧ row c u = row (src c t) t + if t.val / 4 = 2 then 64 else 0 := by decide +kernel
theorem rows_kind : ∀ t : T, t.val / 4 < 4 → rows (big t) = 128 := by decide

theorem rest_none (c : Dev nD) (t : T) (h : t.val / 4 < 2) : restRows c t = ∅ := by
  unfold restRows; rcases (by omega : t.val / 4 = 0 ∨ t.val / 4 = 1) with e | e <;> simp only [e]
theorem rest_low (c : Dev nD) (t : T) (h : t.val / 4 = 2) : restRows c t = rset (row (src c t) t) 64 := by unfold restRows; simp only [h]
theorem rest_high (c : Dev nD) (t : T) (h : t.val / 4 = 3) : restRows c t = rset (row (src c t) t + 64) 64 := by unfold restRows; simp only [h]
theorem rest_all (c : Dev nD) (t : T) (h : 4 ≤ t.val / 4) : restRows c t = inRows c t := by
  have hk : t.val / 4 < 7 := by omega
  unfold restRows; rcases (by omega : t.val / 4 = 4 ∨ t.val / 4 = 5 ∨ t.val / 4 = 6) with e | e | e <;> simp only [e]
theorem share_piece : ∀ o : Fin 4, share (copy 5 o) = fullShare ∧ share (copy 4 o) = fullShare := by intro o; fin_cases o <;> exact ⟨rfl, rfl⟩

/-- An arrival is the sources it provides and a spare part. -/
theorem landed_split (c : Dev nD) (t : T) (h : gets c t = true) :
    landed (F := F) xs c t = iprop(bigSep (feeds t) (source xs c) ∗ spare xs c t) := by
  unfold landed spare
  by_cases h1 : t.val / 4 < 2
  · have hr := rows_kind t (by omega)
    rw [rest_none c t h1, has_empty, feeds_z t h1, ← has_quarter xs c ⟨t.val % 4, Nat.mod_lt _ (by decide)⟩ (inRows c t) fun u hu => by
      rw [← feeds_z t h1] at hu
      obtain ⟨a, b⟩ := feeds_row c t u h hu
      show rset _ _ = rset _ _; rw [a, b, if_pos h1, if_neg (by omega), hr, Nat.add_zero]]
    exact Entails.antisymm sep_emp.2 sep_emp.1
  by_cases h2 : t.val / 4 = 2
  · have hr := rows_kind t (by omega)
    obtain ⟨a, b⟩ := feeds_row c t (copy 5 ⟨t.val % 4, Nat.mod_lt _ (by decide)⟩) h (by rw [feeds_x t h2]; exact Finset.mem_singleton_self _)
    rw [rest_low c t h2, feeds_x t h2, bigSep_singleton]
    unfold source outRows inRows
    rw [a, b, if_neg h1, if_pos h2, (share_piece _).1, hr, ← has_union xs c (rset_disjoint (by omega)), Finset.union_comm, rset_append]
  by_cases h3 : t.val / 4 = 3
  · have hr := rows_kind t (by omega)
    obtain ⟨a, b⟩ := feeds_row c t (copy 4 ⟨t.val % 4, Nat.mod_lt _ (by decide)⟩) h (by rw [feeds_y t h3]; exact Finset.mem_singleton_self _)
    rw [rest_high c t h3, feeds_y t h3, bigSep_singleton]
    unfold source outRows inRows
    rw [a, b, if_neg h1, if_neg h2, (share_piece _).2, hr, Nat.add_zero, ← has_union xs c (rset_disjoint (by omega)), rset_append]
  · rw [rest_all c t (by omega), feeds_no t (by omega), bigSep_empty]
    exact Entails.antisymm emp_sep.2 emp_sep.1

/-! ## The whole output -/

/-- The rows of device `c`'s own block, -/
abbrev ownRows (c : Dev nD) : Finset S2048x512.Idx := rset (512 * (c.val % 4)) 512
/-- and of its own quarter. -/
abbrev ownQuarter (c : Dev nD) : Finset S2048x512.Idx := rset (row c (c.val % 4)) 128

theorem own_row : ∀ (c : Dev nD) (u : T), u ∈ feeds0 c → rows (big u) = 128 ∧ row c u = row c (c.val % 4) := by decide +kernel
theorem own_in : ∀ c : Dev nD, 512 * (c.val % 4) ≤ row c (c.val % 4) ∧ row c (c.val % 4) + 128 ≤ 512 * (c.val % 4) + 512 := by decide +kernel
theorem feeds0_eq : ∀ c : Dev nD, feeds0 c = quarter ⟨c.val % 4, Nat.mod_lt _ (by decide)⟩ := by decide +kernel
theorem ins_apart : ∀ (c : Dev nD) (t u : T), gets c t = true → gets c u = true → t ≠ u →
    row (src c t) t + rows (big t) ≤ row (src c u) u ∨ row (src c u) u + rows (big u) ≤ row (src c t) t := by decide +kernel
theorem ins_own : ∀ (c : Dev nD) (t : T), gets c t = true →
    row (src c t) t + rows (big t) ≤ 512 * (c.val % 4) ∨ 512 * (c.val % 4) + 512 ≤ row (src c t) t := by decide +kernel
theorem ins_cover : ∀ (c : Dev nD) (k : Fin 32), k.val / 8 = c.val % 4 ∨ ∃ t : T, gets c t = true ∧ row (src c t) t ≤ 64 * k.val ∧ 64 * k.val + 64 ≤ row (src c t) t + rows (big t) := by
  decide +kernel

/-- The elements of the output are those of the own block and of the arrivals. -/
theorem rows_cover (c : Dev nD) (S : Finset S2048x512.Idx) (hS : ∀ i, i ∈ S) : S = ownRows c ∪ (ins c).biUnion (inRows c) := by
  ext i
  have hlt : (i 0).val < 2048 := (i 0).isLt
  refine ⟨fun _ => ?_, fun _ => hS i⟩
  rw [Finset.mem_union, Finset.mem_biUnion, mem_rset]
  have h := ins_cover c ⟨(i 0).val / 64, by omega⟩
  simp only at h
  rcases h with h | ⟨t, ht, h1, h2⟩
  · left; omega
  · right; exact ⟨t, mem_ins.mpr ht, by rw [mem_rset]; omega⟩

/-- Rows held are held part by part. -/
theorem pts_parts (c : Dev nD) (S : Finset S2048x512.Idx) (s : Finset T) (K : T → Finset S2048x512.Idx) (hS : ∀ i, i ∈ S ↔ ∃ t ∈ s, i ∈ K t)
    (h : ∀ t ∈ s, ∀ u ∈ s, t ≠ u → Disjoint (K t) (K u)) (q : PosShare TreeShare) (f : Buf (Elt F) (outLoc c)) :
    (outLoc c ↦[S]{q} f : sProp 𝕄) = bigSep s fun t => (outLoc c ↦[K t]{q} f : sProp 𝕄) := by
  have e := pointsTo_biUnion (Name := ℕ) (U := UU) (Lvl := ℕ) (Ix := Unit) (Val := Elt F) (ℓ := outLoc c) (q := q) (f := f) s K h
  rw [← e]
  exact congrArg (fun I => (outLoc c ↦[I]{q} f : sProp 𝕄)) (Finset.ext fun i => (hS i).trans Finset.mem_biUnion.symm)

theorem ins_disjoint (c : Dev nD) : ∀ t ∈ ins c, ∀ u ∈ ins c, t ≠ u → Disjoint (inRows c t) (inRows c u) := fun t ht u hu hn =>
  rset_disjoint (ins_apart c t u (mem_ins.mp ht) (mem_ins.mp hu) hn)

theorem own_disjoint (c : Dev nD) : Disjoint (ownRows c) ((ins c).biUnion (inRows c)) :=
  (Finset.disjoint_biUnion_right _ _ _).mpr fun t ht => rset_disjoint ((ins_own c t (mem_ins.mp ht)).symm)

/-- What of the own block is no copy's source. -/
def ownSpare (c : Dev nD) : sProp 𝕄 := has xs c (ownRows c \ ownQuarter c) fullShare

theorem own_split (c : Dev nD) : has (F := F) xs c (ownRows c) fullShare = iprop(bigSep (feeds0 c) (source xs c) ∗ ownSpare xs c) := by
  have hs : ownQuarter c ⊆ ownRows c := fun i hi => by
    have := own_in c
    rw [mem_rset] at hi ⊢; omega
  unfold ownSpare
  rw [feeds0_eq, ← has_quarter xs c ⟨c.val % 4, Nat.mod_lt _ (by decide)⟩ (ownQuarter c) fun u hu => by
    rw [← feeds0_eq c] at hu
    obtain ⟨a, b⟩ := own_row c u hu
    unfold outRows; rw [a, b], ← has_union xs c Finset.disjoint_sdiff, Finset.union_sdiff_of_subset hs]

/-- The output at its final contents, over a set of all its elements, is the own block and the arrivals. -/
theorem whole_split (c : Dev nD) (S : Finset S2048x512.Idx) (hS : ∀ i, i ∈ S) :
    has (F := F) xs c S fullShare = iprop(has xs c (ownRows c) fullShare ∗ bigSep (ins c) (landed xs c)) := by
  rw [rows_cover c S hS, has_union xs c (own_disjoint c) fullShare]
  exact congrArg (fun P => iprop(has (F := F) xs c (ownRows c) fullShare ∗ P)) (pts_parts c _ (ins c) (inRows c) (fun i => Finset.mem_biUnion) (ins_disjoint c) fullShare _)

theorem src_all : ∀ c : Dev nD, allSrc c = feeds0 c ∪ (ins c).biUnion feeds := by decide +kernel
theorem src_apart : ∀ (c : Dev nD) (t u : T), gets c t = true → gets c u = true → t ≠ u → Disjoint (feeds t) (feeds u) := by decide +kernel
theorem src_own : ∀ (c : Dev nD) (t : T), gets c t = true → Disjoint (feeds0 c) (feeds t) := by decide +kernel

/-- All sources and all spare parts make the output whole. -/
theorem whole_join (c : Dev nD) (S : Finset S2048x512.Idx) (hS : ∀ i, i ∈ S) : iprop(bigSep (allSrc c) (source (F := F) xs c) ∗ bigSep (ins c) (spare xs c) ∗ ownSpare xs c) ⊢ has xs c S fullShare := by
  rw [whole_split xs c S hS, own_split, bigSep_congr (s := ins c) fun t ht => landed_split xs c t (mem_ins.mp ht), bigSep_sep', src_all,
    all_union ((Finset.disjoint_biUnion_right _ _ _).mpr fun t ht => src_own c t (mem_ins.mp ht)),
    all_parts (ins c) feeds fun t ht u hu hn => src_apart c t u (mem_ins.mp ht) (mem_ins.mp hu) hn]
  iintro ⟨⟨H1, H2⟩, H3, H4⟩
  isplitl [H1 H4]
  · isplitl [H1] <;> iassumption
  · isplitl [H2] <;> iassumption

/-- A whole output whose own block is at its final contents is the own sources, the own spare part and the landing places. -/
theorem whole_start (c : Dev nD) (f : Buf (Elt F) (outLoc c)) (hf : ∀ i ∈ ownRows c, f i = final xs c i) (S : Finset S2048x512.Idx) (hS : ∀ i, i ∈ S) :
    (outLoc c ↦[S]{fullShare} f : sProp 𝕄) ⊢ iprop((bigSep (feeds0 c) (source xs c) ∗ ownSpare xs c) ∗ bigSep (ins c) (place (F := F) c)) := by
  rw [rows_cover c S hS, ← own_split]
  refine (pointsTo_union (own_disjoint c)).1.trans (BI.sep_mono ?_ ?_)
  · exact Entails.of_eq (pointsTo_congr hf)
  · refine (Entails.of_eq (pts_parts c _ (ins c) (inRows c) (fun i => Finset.mem_biUnion) (ins_disjoint c) fullShare _)).trans ?_
    refine bigSep_mono fun t _ => ?_
    unfold place
    show (_ : sProp 𝕄) ⊢ _
    iintro H
    iexists f
    iexact H

/-! ## The grants of the first handshake -/

theorem outs_peers : ∀ c : Dev nD, outs c = (peers c).biUnion fun e => (outs c).filter fun t => dst c t = e := by decide +kernel
theorem ins_peers : ∀ c : Dev nD, ins c = (peers c).biUnion fun e => (outs e).filter fun t => dst e t = c := by decide +kernel
theorem ins_once : ∀ c d e : Dev nD, d ≠ e → Disjoint ((outs d).filter fun t => dst d t = c) ((outs e).filter fun t => dst e t = c) := fun c d e hn =>
  Finset.disjoint_left.mpr fun t h h' => hn (by
    rw [Finset.mem_filter, mem_outs] at h h'
    rw [← src_dst d t h.1, ← src_dst e t h'.1, h.2, h'.2])

/-- All grants a device receives are the landing places of what it sends. -/
theorem grants_got (c : Dev nD) : bigSep (peers c) (grant (F := F) c) = bigSep (outs c) (fun t => place (dst c t) t) := by
  conv_rhs => rw [outs_peers c]
  rw [all_parts (peers c) _ fun d _ e _ hn => Finset.disjoint_left.mpr fun t h h' => hn ((Finset.mem_filter.mp h).2.symm.trans (Finset.mem_filter.mp h').2)]
  rfl

/-- A device's landing places are all the grants it makes. -/
theorem grants_made (c : Dev nD) : bigSep (ins c) (place (F := F) c) = bigSep (peers c) (fun e => grant (F := F) e c) := by
  conv_lhs => rw [ins_peers c]
  rw [all_parts (peers c) _ fun d _ e _ hn => ins_once c d e hn]
  refine bigSep_congr fun e _ => ?_
  unfold grant
  exact bigSep_congr fun t ht => by rw [(Finset.mem_filter.mp ht).2]

end Cert.KernelIdeal.Gather

end
-- ==== Proof.StepWp.lean ====
/-
Every step of a device, taken: from what the device holds in a state of its bookkeeping to what it holds in the next;
and so whole programs, step by step.
-/
module

public import proofs.«01_k».proof.Proof.Split

@[expose] public section

set_option maxRecDepth 10000

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → InBuf F) (K : Dev nD × Fin 58 → ℕ)

abbrev 𝒱₀ : Variants := Variants.none

/-- Device `c`'s program `p` runs safely and ends in `Q`. -/
abbrev Run {α : Type} (c : Dev nD) (p : Prg F α) (Q : α → sProp 𝕄) : sProp 𝕄 :=
  wp frame (wpE (defs₀ (F := F)) 𝒱₀ (c : Thread nD τ) none) Set.univ p Q

variable {α : Type} {k : PUnit → Prg F α} {Q : α → sProp (MT nD τ sig Unit (Elt F) ℕ UU ℕ)}

/-! ## The steps at a semaphore given by its number -/

/-- A signal. -/
theorem tell (c e : Dev nD) {sem : Sem sig} {sm : SemLoc sig} (h : sm = .reg sem) {d : Dev nD} {κ : ℕ}
    (hd : d ∈ (rd (F := F) xs).duties ((e : Thread nD τ), sm) 0) (ha : (rd (F := F) xs).amount ((e : Thread nD τ), sm) 0 d = 1)
    {O₀ : CellTallies nD τ sig Unit} (O : CellTallies nD τ sig Unit) (hO : O₀ = O + tallyAt ((e : Thread nD τ), sm) () 1) {W : Waits sig Unit} :
    iprop(cellInv ER (rd xs) κ ((e : Thread nD τ), sm) ∗ owes (c : Thread nD τ) O₀ W ∗ dutyTok ER ((e : Thread nD τ), sm) 0 d
        ∗ (rd xs).payload ((e : Thread nD τ), sm) 0 d ∗ reached ER ((e : Thread nD τ), sm) 0)
      ⊢ iprop((owes (c : Thread nD τ) O W -∗ Run c (k ⟨⟩) Q) -∗ Run c (.op (.semSignal (e, .tc) sem ((1 : ℕ) : ℤ)) k) Q) := by
  subst h
  exact Rounds.wp_signal 𝒱₀ ER (rd xs) (c : Thread nD τ) none (dst := (e : Thread nD τ)) (κ := κ) (d := d) hd ha () O hO

/-- A wait for a whole handshake. -/
theorem await (c : Dev nD) {sem : Sem sig} {sm : SemLoc sig} (h : sm = .reg sem) {n κ : ℕ} (hn : n = (rd (F := F) xs).expect ((c : Thread nD τ), sm) 0)
    {O : CellTallies nD τ sig Unit} {W : Waits sig Unit} :
    iprop(cellInv ER (rd xs) κ ((c : Thread nD τ), sm) ∗ cred (tallyAt ((c : Thread nD τ), sm) () n) ∗ owes (c : Thread nD τ) O W
        ∗ MayWait (c : Thread nD τ) sm () O ∗ atPos ER ((c : Thread nD τ), sm) 0 ∅ 0)
      ⊢ iprop(((owes (c : Thread nD τ) O (insert (sm, ()) W) ∗ atPos ER ((c : Thread nD τ), sm) 1 ∅ 0 ∗ reached ER ((c : Thread nD τ), sm) 1
            ∗ bigSep ((rd xs).duties ((c : Thread nD τ), sm) 0 \ ∅) (fun d => (rd xs).payload ((c : Thread nD τ), sm) 0 d)) -∗ Run c (k ⟨⟩) Q)
          -∗ Run c (.op (.semWait sem (n : ℤ)) k) Q) := by
  subst h
  exact Rounds.wp_wait_rest_token 𝒱₀ ER (rd xs) (c : Thread nD τ) none (κ := κ) (wpE_semWait_eq 𝒱₀ (c : Thread nD τ) none Set.univ) (Set.mem_univ _) ()
    (O := O) (W := W) (R := 0) (m := 0) (T := ∅) (by rw [Nat.zero_add, hn])

/-- A wait for one copy. -/
theorem awaitD (c : Dev nD) (b : Bool) (off : Fin 2 → ℕ) (h h' : ∀ i, off i + (shp b).size i ≤ S2048x512.size i) {q : DmaSem sig} {sm : SemLoc sig} (hq : sm = .dma q) {κ : ℕ}
    {w : (cut b off h').view.WordExact} {w' : (cut b off h).view.WordExact} (hn : worth b = (rd (F := F) xs).expect ((c : Thread nD τ), sm) 0)
    {O : CellTallies nD τ sig Unit} {W : Waits sig Unit} :
    iprop(cellInv ER (rd xs) κ ((c : Thread nD τ), sm) ∗ cred (tallyAt ((c : Thread nD τ), sm) () (worth b)) ∗ owes (c : Thread nD τ) O W
        ∗ MayWait (c : Thread nD τ) sm () O ∗ atPos ER ((c : Thread nD τ), sm) 0 ∅ 0)
      ⊢ iprop(((owes (c : Thread nD τ) O (insert (sm, ()) W) ∗ atPos ER ((c : Thread nD τ), sm) 1 ∅ 0 ∗ reached ER ((c : Thread nD τ), sm) 1
            ∗ bigSep ((rd xs).duties ((c : Thread nD τ), sm) 0 \ ∅) (fun d => (rd xs).payload ((c : Thread nD τ), sm) 0 d)) -∗ Run c (k ⟨⟩) Q)
          -∗ Run c (.op (.waitDma2 q (cut b off h') (cut b off h) w w') k) Q) := by
  subst hq
  rw [← worth_eq b off h] at hn ⊢
  exact Rounds.wp_wait_rest_token 𝒱₀ ER (rd xs) (c : Thread nD τ) none (κ := κ) (wpE_waitDma2_eq 𝒱₀ (c : Thread nD τ) none Set.univ) (Set.mem_univ _) ()
    (O := O) (W := W) (R := 0) (m := 0) (T := ∅) (by rw [Nat.zero_add]; exact hn)

theorem rows_at (c : Dev nD) (t : T) (b : Bool) (off : Fin 2 → ℕ) (hb : b = big t) (ho : offAt off (row c t)) : rset (off 0) (rows b) = outRows c t := by
  rw [hb, ho.1]

/-- What a copy leaves at its landing place: the sender's contents on its rows, which are the receiver's final ones. -/
theorem landing (c : Dev nD) (t : T) (hs : sends c t = true) (b : Bool) (off : Fin 2 → ℕ) (h h' : ∀ i, off i + (shp b).size i ≤ S2048x512.size i)
    (hb : b = big t) (ho : offAt off (row c t)) (f : Buf (Elt F) (outLoc (dst c t))) :
    (outLoc (dst c t) ↦[(cut b off h').view.set]{fullShare} (cut b off h').view.write (Elt F) f ((cut b off h).view.read (Elt F) (final xs c)) Finset.univ : sProp 𝕄)
      = landed xs (dst c t) t := by
  have e : (cut b off h').view.set = inRows (dst c t) t := (cut_set b off h' ho.2).trans ((rows_at c t b off hb ho).trans (inRows_dst c t hs).symm)
  unfold landed has
  rw [← e]
  refine pointsTo_congr fun i hi => ?_
  rw [View.write_read_eq_piecewise, Finset.piecewise_eq_of_mem _ _ _ (by exact hi)]
  rw [e, inRows_dst c t hs] at hi
  exact (final_dst xs c t hs i hi).symm

/-- A copy sent by named semaphores. -/
theorem putAt (c e : Dev nD) (b : Bool) (off : Fin 2 → ℕ) (h h' : ∀ i, off i + (shp b).size i ≤ S2048x512.size i) {qs qr : DmaSem sig} {κ κ' : ℕ}
    {w : (cut b off h).view.WordExact} {w' : (cut b off h').view.WordExact} {hsc : (cut b off h').view.ref.isScScratch = false}
    {ht : DmaTarget.Typed .vmem (.dma qr) (.remote (Dev.tc e) (cut b off h') (.dma qs) hsc)} {q : PosShare TreeShare}
    {fs : Buf (Elt F) (outLoc c)} {fd : Buf (Elt F) (outLoc e)}
    (d1 : (0 : Fin 16) ∈ (rd (F := F) xs).duties ((c : Thread nD τ), .dma qs) 0) (d2 : (0 : Fin 16) ∈ (rd (F := F) xs).duties ((e : Thread nD τ), .dma qr) 0)
    (a1 : (rd (F := F) xs).amount ((c : Thread nD τ), .dma qs) 0 (0 : Fin 16) = worth b) (a2 : (rd (F := F) xs).amount ((e : Thread nD τ), .dma qr) 0 (0 : Fin 16) = worth b)
    {O₀ : CellTallies nD τ sig Unit} (O : CellTallies nD τ sig Unit) (hO : O₀ = O + tallyAt ((e : Thread nD τ), .dma qr) () (worth b)) {W : Waits sig Unit}
    (p1 : (outLoc c ↦[(cut b off h).view.set]{q} fs) ⊢ (rd (F := F) xs).payload ((c : Thread nD τ), .dma qs) 0 (0 : Fin 16))
    (p2 : (outLoc e ↦[(cut b off h').view.set]{fullShare} (cut b off h').view.write (Elt F) fd ((cut b off h).view.read (Elt F) fs) Finset.univ)
      ⊢ (rd (F := F) xs).payload ((e : Thread nD τ), .dma qr) 0 (0 : Fin 16)) :
    iprop(cellInv ER (rd xs) κ ((c : Thread nD τ), .dma qs) ∗ cellInv ER (rd xs) κ' ((e : Thread nD τ), .dma qr)
        ∗ (outLoc c ↦[(cut b off h).view.set]{q} fs) ∗ (outLoc e ↦[(cut b off h').view.set]{fullShare} fd) ∗ owes (c : Thread nD τ) O₀ W
        ∗ dutyTok ER ((c : Thread nD τ), .dma qs) 0 (0 : Fin 16) ∗ reached ER ((c : Thread nD τ), .dma qs) 0
        ∗ dutyTok ER ((e : Thread nD τ), .dma qr) 0 (0 : Fin 16) ∗ reached ER ((e : Thread nD τ), .dma qr) 0)
      ⊢ iprop(((cred (tallyAt ((c : Thread nD τ), .dma qs) () (worth b)) ∗ owes (c : Thread nD τ) O W) -∗ Run c (k ⟨⟩) Q)
          -∗ Run c (.op (.enqueueDma (cut b off h) (.remote (Dev.tc e) (cut b off h') (.dma qs) hsc) (.dma qr) w w' ht) k) Q) :=
  Rounds.wp_send_pointsTo 𝒱₀ ER (rd xs) (c : Thread nD τ) none (c' := (e : Thread nD τ)) (src := cut b off h) (dst := cut b off h') (q := q) (fs := fs) (fd := fd)
    (κ₁ := κ) (κ₂ := κ') (r₁ := 0) (r₂ := 0) (d₁ := (0 : Fin 16)) (d₂ := (0 : Fin 16)) d1 d2 () () (worth b) (worth_eq b off h') a1 a2 O hO (W := W) p1 p2

/-- A copy sent. -/
theorem put (c : Dev nD) (t : T) (hs : sends c t = true) (b : Bool) (off : Fin 2 → ℕ) (h h' : ∀ i, off i + (shp b).size i ≤ S2048x512.size i)
    (hb : b = big t) (ho : offAt off (row c t)) {qs qr : DmaSem sig} (hqs : semOf (sNo t) = .dma qs) (hqr : semOf (rNo t) = .dma qr)
    {e : Dev nD} (he : e = dst c t) {κ κ' : ℕ}
    {w : (cut b off h).view.WordExact} {w' : (cut b off h').view.WordExact} {hsc : (cut b off h').view.ref.isScScratch = false}
    {ht : DmaTarget.Typed .vmem (.dma qr) (.remote (Dev.tc e) (cut b off h') (.dma qs) hsc)}
    {O₀ : CellTallies nD τ sig Unit} (O : CellTallies nD τ sig Unit) (hO : O₀ = O + tallyAt (cell (dst c t) (rNo t)) () (worth (big t))) {W : Waits sig Unit} :
    iprop(cellInv ER (rd xs) κ (cell c (sNo t)) ∗ cellInv ER (rd xs) κ' (cell (dst c t) (rNo t)) ∗ source xs c t ∗ place (dst c t) t ∗ owes (c : Thread nD τ) O₀ W
        ∗ tokT c t ∗ reached ER (cell c (sNo t)) 0 ∗ reached ER (cell (dst c t) (rNo t)) 0)
      ⊢ iprop(((credS c t ∗ owes (c : Thread nD τ) O W) -∗ Run c (k ⟨⟩) Q)
          -∗ Run c (.op (.enqueueDma (cut b off h) (.remote (Dev.tc e) (cut b off h') (.dma qs) hsc) (.dma qr) w w' ht) k) Q) := by
  subst he
  have es : (cut b off h).view.set = outRows c t := (cut_set b off h ho.2).trans (rows_at c t b off hb ho)
  have er : (cut b off h').view.set = inRows (dst c t) t := (cut_set b off h' ho.2).trans ((rows_at c t b off hb ho).trans (inRows_dst c t hs).symm)
  have d1 : (0 : Fin 16) ∈ (rd (F := F) xs).duties (cell c (sNo t)) 0 := by rw [duties_s, if_pos hs]; exact Finset.mem_singleton_self _
  have d2 : (0 : Fin 16) ∈ (rd (F := F) xs).duties (cell (dst c t) (rNo t)) 0 := by rw [duties_r, if_pos (gets_dst c t hs)]; exact Finset.mem_singleton_self _
  have a1 := (amount_s xs c t (0 : Fin 16)).trans (congrArg worth hb.symm)
  have a2 := (amount_r xs (dst c t) t (0 : Fin 16)).trans (congrArg worth hb.symm)
  have p1 := payload_s xs c t (0 : Fin 16)
  have p2 := payload_r xs (dst c t) t (0 : Fin 16)
  have pl := landing xs c t hs b off h h' hb ho
  have eS : (source xs c t : sProp 𝕄) ⊢ (outLoc c ↦[(cut b off h).view.set]{share t} final xs c) := by rw [es]; exact BI.Entails.refl _
  have eP : (place (F := F) (dst c t) t : sProp 𝕄) ⊢ iprop(∃ f : Buf (Elt F) (outLoc (dst c t)), outLoc (dst c t) ↦[(cut b off h').view.set]{fullShare} f) := by
    rw [er]; exact BI.Entails.refl _
  have eS' : (outLoc c ↦[(cut b off h).view.set]{share t} final xs c) ⊢ (source xs c t : sProp 𝕄) := by rw [es]; exact BI.Entails.refl _
  have hw : worth (big t) = worth b := congrArg worth hb.symm
  have hO' : O₀ = O + tallyAt ((dst c t : Thread nD τ), .dma qr) () (worth b) := by rw [← hqr, ← hw]; exact hO
  unfold credS tokT
  rw [hw] at *
  simp only [cell, hqs] at *
  simp only [cell, hqr] at *
  iintro ⟨HI, HI', Hs, Hp, HO, ⟨Ht, Ht'⟩, Hr, Hr'⟩ Hk
  ihave Hs := eS $$ Hs
  ihave Hp := eP $$ Hp
  icases Hp with ⟨%f, Hp⟩
  iapply (putAt xs c (dst c t) b off h h' d1 d2 a1 a2 O hO' (eS'.trans (Entails.of_eq p1.symm)) (Entails.of_eq ((pl f).trans p2.symm))) $$ [HI HI' Hs Hp HO Ht Ht' Hr Hr']
  · isplitl [HI]; · iexact HI
    isplitl [HI']; · iexact HI'
    isplitl [Hs]; · iexact Hs
    isplitl [Hp]; · iexact Hp
    isplitl [HO]; · iexact HO
    isplitl [Ht]; · iexact Ht
    isplitl [Hr]; · iexact Hr
    isplitl [Ht']; · iexact Ht'
    iexact Hr'
  iexact Hk

/-! ## What is owed and where the waits stand -/

theorem owing_b1 (c : Dev nD) (s : St) (e : Dev nD) (he : e ∈ s.b1) :
    owing c s = owing c { s with b1 := s.b1.erase e } + tallyAt (cell e cellA) () 1 := by
  unfold owing; rw [← Finset.sum_erase_add _ _ he, add_right_comm _ (tallyAt (cell e cellA) () 1), add_right_comm _ (tallyAt (cell e cellA) () 1)]
theorem owing_b2 (c : Dev nD) (s : St) (e : Dev nD) (he : e ∈ s.b2) :
    owing c s = owing c { s with b2 := s.b2.erase e } + tallyAt (cell e cellB) () 1 := by
  unfold owing; rw [← Finset.sum_erase_add (a := e) s.b2 _ he, ← add_assoc, add_right_comm _ (tallyAt (cell e cellB) () 1)]
theorem owing_uns (c : Dev nD) (s : St) (t : T) (ht : t ∈ s.uns) :
    owing c s = owing c { s with uns := s.uns.erase t } + tallyAt (cell (dst c t) (rNo t)) () (worth (big t)) := by
  unfold owing; rw [← Finset.sum_erase_add (a := t) s.uns _ ht, ← add_assoc]

theorem pos_take (c : Dev nD) (dn : Finset (Fin 58)) (j : Fin 58) (h : j ∉ dn) :
    bigSep Finset.univ (posAt (F := F) c dn) = iprop(atPos ER (cell c j) 0 ∅ 0 ∗ bigSep (Finset.univ.erase j) (posAt c dn)) := by
  have e : posAt (F := F) c dn j = atPos ER (cell c j) 0 ∅ 0 := by unfold posAt; rw [if_neg h]
  rw [all_erase (Finset.mem_univ j), e]
theorem pos_give (c : Dev nD) (dn : Finset (Fin 58)) (j : Fin 58) :
    iprop(atPos ER (cell c j) 1 ∅ 0 ∗ bigSep (Finset.univ.erase j) (posAt c dn)) = bigSep Finset.univ (posAt (F := F) c (insert j dn)) := by
  have e : posAt (F := F) c (insert j dn) j = atPos ER (cell c j) 1 ∅ 0 := by unfold posAt; rw [if_pos (Finset.mem_insert_self _ _)]
  have e' : bigSep (Finset.univ.erase j) (posAt (F := F) c dn) = bigSep (Finset.univ.erase j) (posAt c (insert j dn)) := bigSep_congr fun i hi => by
    have hm : i ∈ dn ↔ i ∈ insert j dn := by rw [Finset.mem_insert]; exact ⟨.inr, fun h => h.resolve_left (Finset.ne_of_mem_erase hi)⟩
    unfold posAt
    rw [if_congr hm rfl rfl]
  rw [all_erase (Finset.mem_univ j), e, e']

theorem credH_eq (c : Dev nD) (j : Fin 58) : credH c j ⊢ (cred (tallyAt (cell c j) () (peers c).card) : sProp 𝕄) := BI.Entails.refl _

theorem strike (S : Finset (Dev nD)) (d : ℕ) (h : d < nD) : (S.filter fun e => e.val ≠ d) = S.erase ⟨d, h⟩ := by
  ext e
  rw [Finset.mem_filter, Finset.mem_erase, and_comm, ne_eq, ne_eq, Fin.ext_iff]

/-! ## The steps in the bookkeeping -/

/-- A signal of the first handshake. -/
theorem step_A (c : Dev nD) (s : St) (d : ℕ) (hd : d < nD) (he : (⟨d, hd⟩ : Dev nD) ∈ s.b1) :
    iprop(records xs K ∗ Res xs c s) ⊢ iprop((Res xs c (nxt c s (.sig false d)) -∗ Run c (k ⟨⟩) Q)
      -∗ Run c (.op (.semSignal ((⟨d, hd⟩ : Dev nD), .tc) (hand false) ((1 : ℕ) : ℤ)) k) Q) := by
  have hn : nxt c s (.sig false d) = { s with b1 := s.b1.erase ⟨d, hd⟩ } := by
    show ({ s with b1 := s.b1.filter fun e => e.val ≠ d } : St) = _; rw [strike _ d hd]
  rw [hn]
  generalize (⟨d, hd⟩ : Dev nD) = e at *
  have hO := owing_b1 c s e he
  have tA : tokA c e ⊢ (iprop(⌜c ∈ peers e⌝ ∗ dutyTok ER (cell e cellA) 0 c ∗ grant e c) : sProp 𝕄) := BI.Entails.refl _
  unfold Res debt
  dsimp only
  rw [all_erase he (tokA c)]
  iintro ⟨#HR, ⟨Ht, H1⟩, H2, H3, H4, H5, H6, H7, H8, H9, H10, H11, ⟨%W, HO⟩⟩ Hk
  ihave Ht := tA $$ Ht
  icases Ht with ⟨%hp, Ht, Hg⟩
  iapply (tell xs c e (sm := semOf cellA) (sem := hand false) rfl (d := c) (κ := K (e, cellA)) (by rw [duties_A]; exact hp) (amount_A xs e c) _ hO) $$ [HO Ht Hg]
  · isplitr; · iapply (records_inv xs K e cellA); iexact HR
    isplitl [HO]; · iexact HO
    isplitl [Ht]; · iexact Ht
    isplitl [Hg]; · rw [payload_A]; iexact Hg
    iapply (records_reached xs K e cellA); iexact HR
  iintro HO
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists W; iexact HO

/-- A signal of the second handshake. -/
theorem step_B (c : Dev nD) (s : St) (d : ℕ) (hd : d < nD) (he : (⟨d, hd⟩ : Dev nD) ∈ s.b2) :
    iprop(records xs K ∗ Res xs c s) ⊢ iprop((Res xs c (nxt c s (.sig true d)) -∗ Run c (k ⟨⟩) Q)
      -∗ Run c (.op (.semSignal ((⟨d, hd⟩ : Dev nD), .tc) (hand true) ((1 : ℕ) : ℤ)) k) Q) := by
  have hn : nxt c s (.sig true d) = { s with b2 := s.b2.erase ⟨d, hd⟩ } := by
    show ({ s with b2 := s.b2.filter fun e => e.val ≠ d } : St) = _; rw [strike _ d hd]
  rw [hn]
  generalize (⟨d, hd⟩ : Dev nD) = e at *
  have hO := owing_b2 c s e he
  have tB : tokB c e ⊢ (iprop(⌜c ∈ peers e⌝ ∗ dutyTok ER (cell e cellB) 0 c) : sProp 𝕄) := BI.Entails.refl _
  unfold Res debt
  dsimp only
  rw [all_erase he (tokB c)]
  iintro ⟨#HR, H1, ⟨Ht, H2⟩, H3, H4, H5, H6, H7, H8, H9, H10, H11, ⟨%W, HO⟩⟩ Hk
  ihave Ht := tB $$ Ht
  icases Ht with ⟨%hp, Ht⟩
  iapply (tell xs c e (sm := semOf cellB) (sem := hand true) rfl (d := c) (κ := K (e, cellB)) (by rw [duties_B]; exact hp) (amount_B xs e c) _ hO) $$ [HO Ht]
  · isplitr; · iapply (records_inv xs K e cellB); iexact HR
    isplitl [HO]; · iexact HO
    isplitl [Ht]; · iexact Ht
    isplitr; · rw [payload_B]; iempintro
    iapply (records_reached xs K e cellB); iexact HR
  iintro HO
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists W; iexact HO

/-- The wait for the first handshake. -/
theorem step_waitA (c : Dev nD) (s : St) (n : ℕ) (h : may c s (.waitS false n)) :
    iprop(records xs K ∗ Res xs c s) ⊢ iprop((Res xs c (nxt c s (.waitS false n)) -∗ Run c (k ⟨⟩) Q)
      -∗ Run c (.op (.semWait (hand false) (n : ℤ)) k) Q) := by
  obtain ⟨rfl, hw, h1, hsl, hu, hdn⟩ := h
  have hn : nxt c s (.waitS false (peers c).card) = { s with w1 := true, slt := outs c, dn := insert cellA s.dn } := rfl
  have hm := (records_lev xs K).trans <| mayWait (F := F) c s (semOf cellA) 1 (lv_A c).le (.inl h1) (.inr (by decide)) (fun t _ => (rank_pos (dst c t) t).1)
  have hO : owing c { s with w1 := true, slt := outs c, dn := insert cellA s.dn } = owing c s := rfl
  rw [hn]
  unfold Res debt
  rw [hO]
  dsimp only
  rw [pos_take c s.dn cellA hdn, ← pos_give c s.dn cellA, hw, hsl, if_pos rfl, if_neg Bool.false_ne_true]
  iintro ⟨#HR, H1, H2, H3, H4, H5, -, H7, H8, H9, H10, ⟨Hp, H11⟩, ⟨%W, HO⟩⟩ Hk
  iapply (await xs c (sm := semOf cellA) (sem := hand false) rfl (κ := K (c, cellA)) (expect_A xs c).symm) $$ [H3 HO Hp]
  · isplitr; · iapply (records_inv xs K c cellA); iexact HR
    isplitl [H3]; · iapply (credH_eq c cellA); iexact H3
    isplitl [HO]; · iexact HO
    isplitr
    · iapply hm; iexact HR
    iexact Hp
  iintro ⟨HO, Hp, -, H6⟩
  ihave H6 := (Entails.of_eq ((pays_A xs c).trans (grants_got c))) $$ H6
  iapply Hk
  isplitl [H1]; · iexact H1
  isplitl [H2]; · iexact H2
  isplitr; · iempintro
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hp H11]
  · isplitl [Hp]; · iexact Hp
    iexact H11
  iexists _; iexact HO

/-- The wait for the second handshake. -/
theorem step_waitB (c : Dev nD) (s : St) (n : ℕ) (h : may c s (.waitS true n)) :
    iprop(records xs K ∗ Res xs c s) ⊢ iprop((Res xs c (nxt c s (.waitS true n)) -∗ Run c (k ⟨⟩) Q)
      -∗ Run c (.op (.semWait (hand true) (n : ℤ)) k) Q) := by
  obtain ⟨rfl, hw, h1, h2, hu, hdn⟩ := h
  have hn : nxt c s (.waitS true (peers c).card) = { s with w2 := true, dn := insert cellB s.dn } := rfl
  have hm := (records_lev xs K).trans <| mayWait (F := F) c s (semOf cellB) 40 (lv_B c).le (.inl h1) (.inl h2) (fun t ht => by rw [hu] at ht; exact absurd ht (Finset.notMem_empty _))
  have hO : owing c { s with w2 := true, dn := insert cellB s.dn } = owing c s := rfl
  rw [hn]
  unfold Res debt
  rw [hO]
  dsimp only
  rw [pos_take c s.dn cellB hdn, ← pos_give c s.dn cellB, hw, if_pos rfl, if_neg Bool.false_ne_true]
  iintro ⟨#HR, H1, H2, H3, H4, H5, H6, H7, H8, H9, H10, ⟨Hp, H11⟩, ⟨%W, HO⟩⟩ Hk
  iapply (await xs c (sm := semOf cellB) (sem := hand true) rfl (κ := K (c, cellB)) (expect_B xs c).symm) $$ [H4 HO Hp]
  · isplitr; · iapply (records_inv xs K c cellB); iexact HR
    isplitl [H4]; · iapply (credH_eq c cellB); iexact H4
    isplitl [HO]; · iexact HO
    isplitr
    · iapply hm; iexact HR
    iexact Hp
  iintro ⟨HO, Hp, -, -⟩
  iapply Hk
  isplitl [H1]; · iexact H1
  isplitl [H2]; · iexact H2
  isplitl [H3]; · iexact H3
  isplitr; · iempintro
  isplitl [H5]; · iexact H5
  isplitl [H6]; · iexact H6
  isplitl [H7]; · iexact H7
  isplitl [H8]; · iexact H8
  isplitl [H9]; · iexact H9
  isplitl [H10]; · iexact H10
  isplitl [Hp H11]
  · isplitl [Hp]; · iexact Hp
    iexact H11
  iexists _; iexact HO

/-- A copy sent. -/
theorem step_send (c : Dev nD) (s : St) (b : Bool) (off : Fin 2 → ℕ) (h h' : ∀ i, off i + (shp b).size i ≤ S2048x512.size i) (qs qr : DmaSem sig) (d : ℕ) (hd : d < nD)
    {w : (cut b off h).view.WordExact} {w' : (cut b off h').view.WordExact} {hsc : (cut b off h').view.ref.isScScratch = false}
    {ht : DmaTarget.Typed .vmem (.dma qr) (.remote (Dev.tc (⟨d, hd⟩ : Dev nD)) (cut b off h') (.dma qs) hsc)} (hm : may c s (.send b off qs.val qr.val d)) :
    iprop(records xs K ∗ Res xs c s) ⊢ iprop((Res xs c (nxt c s (.send b off qs.val qr.val d)) -∗ Run c (k ⟨⟩) Q)
      -∗ Run c (.op (.enqueueDma (cut b off h) (.remote (Dev.tc (⟨d, hd⟩ : Dev nD)) (cut b off h') (.dma qs) hsc) (.dma qr) w w' ht) k) Q) := by
  obtain ⟨hqs, hqr, hdd, ho, hb, hs, hu, hsl, hsr, hf⟩ := hm
  have hn : nxt c s (.send b off qs.val qr.val d) = { s with uns := s.uns.erase (tOf qs.val), slt := s.slt.erase (tOf qs.val), src := s.src.erase (tOf qs.val), fly := insert (tOf qs.val) s.fly } := rfl
  rw [hn]
  generalize tOf qs.val = t at *
  have he : (⟨d, hd⟩ : Dev nD) = dst c t := Fin.ext (by rw [← dst_val c t hs]; exact hdd)
  have hO := owing_uns c s t hu
  have hO' : owing c { s with uns := s.uns.erase t, slt := s.slt.erase t, src := s.src.erase t, fly := insert t s.fly } = owing c { s with uns := s.uns.erase t } := rfl
  unfold Res debt
  rw [hO']
  dsimp only
  rw [all_erase hu (tokT c), all_erase hsl (fun t => place (dst c t) t), all_erase hsr (source xs c), all_insert hf (credS c)]
  iintro ⟨#HR, H1, H2, H3, H4, ⟨Ht, H5⟩, ⟨Hl, H6⟩, H7, ⟨Hs, H8⟩, H9, H10, H11, ⟨%W, HO⟩⟩ Hk
  iapply (put xs c t hs b off h h' hb ho (semOf_dma hqs (two_le_sIdx t)) (semOf_dma hqr (two_le_rIdx t)) he (κ := K (c, sNo t)) (κ' := K (dst c t, rNo t)) _ hO) $$ [Ht Hl Hs HO]
  · isplitr; · iapply (records_inv xs K c (sNo t)); iexact HR
    isplitr; · iapply (records_inv xs K (dst c t) (rNo t)); iexact HR
    isplitl [Hs]; · iexact Hs
    isplitl [Hl]; · iexact Hl
    isplitl [HO]; · iexact HO
    isplitl [Ht]; · iexact Ht
    isplitr; · iapply (records_reached xs K c (sNo t)); iexact HR
    iapply (records_reached xs K (dst c t) (rNo t)); iexact HR
  iintro ⟨Hc, HO⟩
  iapply Hk
  isplitl [H1]; · iexact H1
  isplitl [H2]; · iexact H2
  isplitl [H3]; · iexact H3
  isplitl [H4]; · iexact H4
  isplitl [H5]; · iexact H5
  isplitl [H6]; · iexact H6
  isplitl [Hc H7]
  · isplitl [Hc]; · iexact Hc
    iexact H7
  isplitl [H8]; · iexact H8
  isplitl [H9]; · iexact H9
  isplitl [H10]; · iexact H10
  isplitl [H11]; · iexact H11
  iexists W; iexact HO

/-- A wait for a copy to have left. -/
theorem step_left (c : Dev nD) (s : St) (b : Bool) (off : Fin 2 → ℕ) (h h' : ∀ i, off i + (shp b).size i ≤ S2048x512.size i) (q : DmaSem sig)
    {w : (cut b off h').view.WordExact} {w' : (cut b off h).view.WordExact} (hr : isR q.val = false) (hm : may c s (.waitD b off q.val)) :
    iprop(records xs K ∗ Res xs c s) ⊢ iprop((Res xs c (nxt c s (.waitD b off q.val)) -∗ Run c (k ⟨⟩) Q)
      -∗ Run c (.op (.waitDma2 q (cut b off h') (cut b off h) w w') k) Q) := by
  obtain ⟨hb, _, _, h1, hdn, hm⟩ := hm
  rw [if_neg (by rw [hr]; exact Bool.false_ne_true)] at hm
  obtain ⟨hq, hf, hsr, hs⟩ := hm
  have hn : nxt c s (.waitD b off q.val) = { s with fly := s.fly.erase (tOf q.val), src := insert (tOf q.val) s.src, dn := insert (cellNo q.val) s.dn } :=
    if_neg (by rw [hr]; exact Bool.false_ne_true)
  rw [hn]
  generalize tOf q.val = t at *
  have hw : worth (big t) = worth b := congrArg worth hb.symm
  have hcell : cellNo q.val = sNo t := congrArg cellNo hq
  rw [hcell] at hdn ⊢
  have hmw := (records_lev xs K).trans <| mayWait (F := F) c s (semOf (sNo t)) 0 (lv_s c t).le (.inl h1) (.inr (by decide)) (fun t _ => Nat.zero_lt_of_lt (rank_pos (dst c t) t).1)
  have hO : owing c { s with fly := s.fly.erase t, src := insert t s.src, dn := insert (sNo t) s.dn } = owing c s := rfl
  have hc : credS c t ⊢ (cred (tallyAt (cell c (sNo t)) () (worth b)) : sProp 𝕄) := by rw [← hw]; exact BI.Entails.refl _
  unfold Res debt
  rw [hO]
  dsimp only
  rw [pos_take c s.dn (sNo t) hdn, ← pos_give c s.dn (sNo t), all_erase hf (credS c), all_insert hsr (source xs c)]
  iintro ⟨#HR, H1, H2, H3, H4, H5, H6, ⟨Hc, H7⟩, H8, H9, H10, ⟨Hp, H11⟩, ⟨%W, HO⟩⟩ Hk
  ihave Hc := hc $$ Hc
  iapply (awaitD xs c b off h h' (sm := semOf (sNo t)) (semOf_dma hq (two_le_sIdx t)) (κ := K (c, sNo t)) (hw.symm.trans (expect_s xs c t hs).symm)) $$ [Hc HO Hp]
  · isplitr; · iapply (records_inv xs K c (sNo t)); iexact HR
    isplitl [Hc]; · iexact Hc
    isplitl [HO]; · iexact HO
    isplitr
    · iapply hmw; iexact HR
    iexact Hp
  iintro ⟨HO, Hp, -, Hs⟩
  ihave Hs := (Entails.of_eq (pays_s xs c t hs)) $$ Hs
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs H8]
  · isplitl [Hs]; · iexact Hs
    iexact H8
  isplitl [H9]; · iexact H9
  isplitl [H10]; · iexact H10
  isplitl [Hp H11]
  · isplitl [Hp]; · iexact Hp
    iexact H11
  iexists _; iexact HO

/-- A wait for a copy to have arrived. -/
theorem step_came (c : Dev nD) (s : St) (b : Bool) (off : Fin 2 → ℕ) (h h' : ∀ i, off i + (shp b).size i ≤ S2048x512.size i) (q : DmaSem sig)
    {w : (cut b off h').view.WordExact} {w' : (cut b off h).view.WordExact} (hr : isR q.val = true) (hm : may c s (.waitD b off q.val)) :
    iprop(records xs K ∗ Res xs c s) ⊢ iprop((Res xs c (nxt c s (.waitD b off q.val)) -∗ Run c (k ⟨⟩) Q)
      -∗ Run c (.op (.waitDma2 q (cut b off h') (cut b off h) w w') k) Q) := by
  obtain ⟨hb, _, _, h1, hdn, hm⟩ := hm
  rw [if_pos hr] at hm
  obtain ⟨hq, hf, hrd, hg, hsr, hlow⟩ := hm
  have hn : nxt c s (.waitD b off q.val) = { s with rcp := s.rcp.erase (tOf q.val), rcd := insert (tOf q.val) s.rcd, src := s.src ∪ feeds (tOf q.val), dn := insert (cellNo q.val) s.dn } :=
    if_pos hr
  rw [hn]
  generalize tOf q.val = t at *
  have hw : worth (big t) = worth b := congrArg worth hb.symm
  have hcell : cellNo q.val = rNo t := congrArg cellNo hq
  rw [hcell] at hdn ⊢
  have hmw := (records_lev xs K).trans <| mayWait (F := F) c s (semOf (rNo t)) (rank c t) (lv_r c t).le (.inl h1) (.inr (rank_pos c t).2) hlow
  have hO : owing c { s with rcp := s.rcp.erase t, rcd := insert t s.rcd, src := s.src ∪ feeds t, dn := insert (rNo t) s.dn } = owing c s := rfl
  have hc : credR c t ⊢ (cred (tallyAt (cell c (rNo t)) () (worth b)) : sProp 𝕄) := by rw [← hw]; exact BI.Entails.refl _
  unfold Res debt
  rw [hO]
  dsimp only
  rw [pos_take c s.dn (rNo t) hdn, ← pos_give c s.dn (rNo t), all_erase hf (credR c), all_insert hrd (spare xs c), all_union hsr (source xs c)]
  iintro ⟨#HR, H1, H2, H3, H4, H5, H6, H7, H8, ⟨Hc, H9⟩, H10, ⟨Hp, H11⟩, ⟨%W, HO⟩⟩ Hk
  ihave Hc := hc $$ Hc
  iapply (awaitD xs c b off h h' (sm := semOf (rNo t)) (semOf_dma hq (two_le_rIdx t)) (κ := K (c, rNo t)) (hw.symm.trans (expect_r xs c t hg).symm)) $$ [Hc HO Hp]
  · isplitr; · iapply (records_inv xs K c (rNo t)); iexact HR
    isplitl [Hc]; · iexact Hc
    isplitl [HO]; · iexact HO
    isplitr
    · iapply hmw; iexact HR
    iexact Hp
  iintro ⟨HO, Hp, -, Hl⟩
  ihave Hl := (Entails.of_eq ((pays_r xs c t hg).trans (landed_split xs c t hg))) $$ Hl
  icases Hl with ⟨Hs, Hl⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs H8]
  · isplitl [H8]; · iexact H8
    iexact Hs
  isplitl [H9]; · iexact H9
  isplitl [Hl H10]
  · isplitl [Hl]; · iexact Hl
    iexact H10
  isplitl [Hp H11]
  · isplitl [Hp]; · iexact Hp
    iexact H11
  iexists _; iexact HO

/-! ## Whole programs -/

/-- A program whose steps may all be taken runs from what the device holds at first to what it holds at the end,
    whatever it keeps aside. -/
theorem runs_run (c : Dev nD) (R : sProp 𝕄) {l : List Op} {p : Prg F α} (hp : Runs l p) :
    ∀ s, okFrom c s l → (∀ s r, s.final c → iprop(records xs K ∗ Res xs c s ∗ R) ⊢ Run c (.ret r) Q) → iprop(records xs K ∗ Res xs c s ∗ R) ⊢ Run c p Q := by
  -- a step, then the rest
  have via {s : St} {o : Op} {p : Prg F α} {k : PUnit → Prg F α} (h : iprop(records xs K ∗ Res xs c s) ⊢ iprop((Res xs c (nxt c s o) -∗ Run c (k ⟨⟩) Q) -∗ Run c p Q))
      (hk : iprop(records xs K ∗ Res xs c (nxt c s o) ∗ R) ⊢ Run c (k ⟨⟩) Q) : iprop(records xs K ∗ Res xs c s ∗ R) ⊢ Run c p Q := by
    iintro ⟨#HR, HS, HF⟩
    iapply h $$ [HS]
    · isplitr; · iexact HR
      iexact HS
    iintro HS
    iapply hk
    isplitr; · iexact HR
    isplitl [HS] <;> iassumption
  induction hp with
  | ret r => exact fun s hs hQ => hQ s r hs
  | signal snd d h hs _ ih =>
    subst hs
    intro s hm hQ
    cases snd
    · exact via (step_A xs K c s d h hm.1.2) (ih _ hm.2 hQ)
    · exact via (step_B xs K c s d h hm.1.2) (ih _ hm.2 hQ)
  | waitS snd n hs _ ih =>
    subst hs
    intro s hm hQ
    cases snd
    · exact via (step_waitA xs K c s n hm.1) (ih _ hm.2 hQ)
    · exact via (step_waitB xs K c s n hm.1) (ih _ hm.2 hQ)
  | send b off h h' qs qr hqs hqr d hd _ ih =>
    subst hqs hqr
    intro s hm hQ
    exact via (step_send xs K c s b off h h' qs qr d hd hm.1) (ih _ hm.2 hQ)
  | waitD b off h h' q hq _ ih =>
    subst hq
    intro s hm hQ
    by_cases hr : isR q.val = true
    · exact via (step_came xs K c s b off h h' q hr hm.1) (ih _ hm.2 hQ)
    · exact via (step_left xs K c s b off h h' q (by simpa using hr) hm.1) (ih _ hm.2 hQ)

end Cert.KernelIdeal.Gather

end
-- ==== Proof.Steps.lean ====
/-
The kernel's body is its list of steps: after it has read its device and stored its own block, device `c` takes the
steps `ops c`.
-/
module

public import proofs.«01_k».proof.Proof.Runs
public import proofs.«01_k».proof.Proof.Gen.KernelIdeal.Skeleton
public import Idealize.ShloMosaic.Lib.Pointwise.Reshape

@[expose] public section

noncomputable section

namespace Cert.KernelIdeal.Gather

open Idealize.ShloMosaic Idealize.SL.Sem Cert.KernelIdeal Cert.KernelIdeal.Gen

variable {F : FTy → Type} [FloatOps F]

/-! ## The parts -/

theorem runs16 (c : Dev nD) (a b v2 v5 v8 v19 v20 v30 w) :
    Runs (ops16 c) (k0_part16 (F := F) (Memref.whole cc0_stg0_0) a (Memref.whole cc0_stg1_0) b cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scoped0 c v2 v5 v8 (hasUp c) (hasDn c) (SemArray.scalar (sig.barrier 0 rfl)) v19 v20 v30 w) := by
  rw [k0_part16_eq_skeleton]
  unfold ops16 k0_part16_skel
  extract_lets
  refine .signal false _ _ rfl (.signal false _ _ rfl ?_)
  refine .cond1 ?_ fun k _ => .signal false _ _ rfl k
  refine .cond1 ?_ fun k _ => by clear_value *; exact .signal false _ _ rfl k
  refine .cond1 ?_ fun k _ => by clear_value *; exact .waitS false 5 rfl k
  refine .cond1 ?_ fun k _ => by clear_value *; exact .waitS false 4 rfl k
  refine .cond1 ?_ fun k _ => by clear_value *; exact .put true k
  refine .cond1 ?_ fun k _ => by clear_value *; exact .put true k
  exact .ret _

theorem runs17 (c : Dev nD) (a b v2 v5 v8 v9 v10 v53 v54) :
    Runs (ops17 c) (k0_part17 (F := F) (Memref.whole cc0_stg0_0) a (Memref.whole cc0_stg1_0) b cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scoped0 c v2 v5 v8 v9 v10 v53 v54) := by
  rw [k0_part17_eq_skeleton]
  unfold ops17 k0_part17_skel
  extract_lets
  refine .cond3 ?_ fun k _ => by clear_value *; exact .two (by rw [k0_part1_eq_skeleton]; exact .got true (.put true (.ret _))) fun ⟨_, _⟩ => .put true k
  refine .cond3 ?_ fun k _ => by clear_value *; exact .two (by rw [k0_part2_eq_skeleton]; exact .got true (.put true (.ret _))) fun ⟨_, _⟩ => .put true k
  refine .cond1 ?_ fun k _ => by clear_value *; exact .put true k
  refine .cond1 ?_ fun k _ => by clear_value *; exact .put true k
  refine .cond3 ?_ fun k _ => by clear_value *; exact .two (by rw [k0_part3_eq_skeleton]; exact .got true (.put true (.ret _))) fun ⟨_, _⟩ => .put true k
  refine .cond3 ?_ fun k _ => by clear_value *; exact .two (by rw [k0_part4_eq_skeleton]; exact .got true (.put true (.ret _))) fun ⟨_, _⟩ => .put true k
  exact .ret _

theorem runs18 (c : Dev nD) (a b v2 v5 v8 v9 v10 v90 v92 v93) :
    Runs (ops18 c) (k0_part18 (F := F) (Memref.whole cc0_stg0_0) a (Memref.whole cc0_stg1_0) b cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scoped0 c v2 v5 v8 v9 v10 v90 v92 v93) := by
  rw [k0_part18_eq_skeleton]
  unfold ops18 k0_part18_skel
  extract_lets
  refine .cond1 ?_ fun k _ => by clear_value *; exact .put true k
  refine .cond1 ?_ fun k _ => by clear_value *; exact .put true k
  refine .cond4 ?_ fun k _ => by clear_value *; exact .two (by rw [k0_part5_eq_skeleton]; exact .got true (.put true (.ret _))) fun ⟨_, _⟩ => .put true (.put true k)
  refine .cond4 ?_ fun k _ => by clear_value *; exact .two (by rw [k0_part6_eq_skeleton]; exact .got true (.put true (.ret _))) fun ⟨_, _⟩ => .put true (.put true k)
  refine .cond4 ?_ fun k _ => by clear_value *; exact .two (by rw [k0_part7_eq_skeleton]; exact .got true (.put false (.ret _))) fun _ => .got true (.put false k)
  refine .cond4 ?_ fun k _ => by clear_value *; exact .two (by rw [k0_part8_eq_skeleton]; exact .got true (.put false (.ret _))) fun _ => .got true (.put false k)
  exact .ret _

theorem runs19 (c : Dev nD) (a b v2 v5 v8 v121 v122 v126) :
    Runs (ops19 c) (k0_part19 (F := F) (Memref.whole cc0_stg0_0) a (Memref.whole cc0_stg1_0) b cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scoped0 c v2 v5 v8 v121 v122 v126) := by
  rw [k0_part19_eq_skeleton]
  unfold ops19 k0_part19_skel
  extract_lets
  refine .cond4 ?_ fun k _ => by clear_value *; exact .two (by rw [k0_part9_eq_skeleton]; exact .got true (.put false (.ret _))) fun _ => .got true (.put false k)
  refine .cond4 ?_ fun k _ => by clear_value *; exact .two (by rw [k0_part10_eq_skeleton]; exact .got true (.put false (.ret _))) fun _ => .got true (.put false k)
  refine .cond2 ?_ fun k _ => by clear_value *; exact .got true (.got true k)
  refine .cond2 ?_ fun k _ => by clear_value *; exact .got true (.got true k)
  refine .cond2 ?_ fun k _ => by clear_value *; exact .one (by rw [k0_part11_eq_skeleton]; exact .got false (.ret _)) fun _ => .got false k
  refine .cond2 ?_ fun k _ => by clear_value *; exact .one (by rw [k0_part12_eq_skeleton]; exact .got false (.ret _)) fun _ => .got false k
  exact .ret _

theorem runs20 (c : Dev nD) (a b v2 v5 v8 v9 v10 v157 v158) :
    Runs (ops20 c) (k0_part20 (F := F) (Memref.whole cc0_stg0_0) a (Memref.whole cc0_stg1_0) b cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scoped0 c v2 v5 v8 v9 v10 v157 v158) := by
  rw [k0_part20_eq_skeleton]
  unfold ops20 k0_part20_skel
  extract_lets
  refine .cond2 ?_ fun k _ => by clear_value *; exact .one (by rw [k0_part13_eq_skeleton]; exact .got false (.ret _)) fun _ => .got false k
  refine .cond2 ?_ fun k _ => by clear_value *; exact .one (by rw [k0_part14_eq_skeleton]; exact .got false (.ret _)) fun _ => .got false k
  refine .cond1 ?_ fun k _ => by clear_value *; exact .got true k
  refine .cond1 ?_ fun k _ => by clear_value *; exact .got true k
  refine .cond1 ?_ fun k _ => by clear_value *; exact .got true k
  exact .ret _

theorem runs21 (c : Dev nD) (a b v2 v5 v8 v9 v10 v184 v191 w) :
    Runs (ops21 c) (k0_part21 (F := F) (Memref.whole cc0_stg0_0) a (Memref.whole cc0_stg1_0) b cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scoped0 c v2 v5 v8 v9 v10 v184 v191 w) := by
  rw [k0_part21_eq_skeleton]
  unfold ops21 k0_part21_skel
  extract_lets
  refine .cond1 ?_ fun k _ => by clear_value *; exact .got true k
  refine .cond1 ?_ fun k _ => by clear_value *; exact .got true k
  refine .cond1 ?_ fun k _ => by clear_value *; exact .got true k
  refine .cond1 ?_ fun k _ => by clear_value *; exact .got true k
  refine .cond1 ?_ fun k _ => by clear_value *; exact .got true k
  refine .cond2 ?_ fun k _ => .waitD true _ _ _ _ (by exact pick_val ..) (.waitD true _ _ _ _ (by exact pick_val ..) k)
  refine .cond2 ?_ fun k _ => .waitD true _ _ _ _ (by exact pick_val ..) (.waitD true _ _ _ _ (by exact pick_val ..) k)
  exact .ret _

theorem runs22 (c : Dev nD) (a b v2 v5 v8 v223) :
    Runs (ops22 c) (k0_part22 (F := F) (Memref.whole cc0_stg0_0) a (Memref.whole cc0_stg1_0) b cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scoped0 c v2 v5 v8 v223) := by
  rw [k0_part22_eq_skeleton]
  unfold ops22 k0_part22_skel
  extract_lets
  refine .cond2 ?_ fun k _ => .waitD true _ _ _ _ (by exact pick_val ..) (.waitD true _ _ _ _ (by exact pick_val ..) k)
  refine .cond2 ?_ fun k _ => .waitD true _ _ _ _ (by exact pick_val ..) (.waitD true _ _ _ _ (by exact pick_val ..) k)
  refine .cond2 ?_ fun k _ => by clear_value *; exact .got false (.got false k)
  refine .cond2 ?_ fun k _ => by clear_value *; exact .got false (.got false k)
  refine .cond2 ?_ fun k _ => by clear_value *; exact .got false (.got false k)
  refine .cond2 ?_ fun k _ => by clear_value *; exact .got false (.got false k)
  exact .ret _

theorem runs23 (c : Dev nD) (a b v2 v5 v8 v253 v254 v255) :
    Runs (ops23 c) (k0_part23 (F := F) (Memref.whole cc0_stg0_0) a (Memref.whole cc0_stg1_0) b cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scoped0 c v2 v5 v8 v253 v254 v255) := by
  rw [k0_part23_eq_skeleton]
  unfold ops23 k0_part23_skel
  extract_lets
  refine .cond1 ?_ fun k _ => by clear_value *; exact .got true k
  refine .cond1 ?_ fun k _ => by clear_value *; exact .got true k
  exact .signal true _ _ scoped_hand (.signal true _ _ scoped_hand (.signal true _ _ scoped_hand (.ret _)))

/-! ## The body -/

/-- The body at its operands. -/
abbrev body0 : Prg F PUnit :=
  cc0_body (F := F) (Memref.whole cc0_stg0_0) (hstage0_0 0) (Memref.whole cc0_stg1_0) (hstage0_1 0) cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scoped0

/-- The body reads its device, loads its input, loads and overwrites its block of the output — the block the printed
    offset names —, and then takes the steps of the list. -/
theorem body_runs : ∃ tail : Dev nD → Prg F PUnit,
    body0 (F := F) = .op .deviceId (fun d : Dev nD =>
      .op (.load (Memref.whole cc0_stg0_0) (Rect.unit (s := S512x512) ![0, 0] S512x512.size inb_S512x512_S512x512_0_0).toLoadRect (View.loadsAt_vmem h_S512x512)) fun v : Vec F S512x512 .f32 =>
      .op (.load (Memref.whole cc0_stg1_0) (Rect.unit (s := S2048x512) (k0_off1 d) S512x512.size (k0_off1_inb d)).toLoadRect (View.loadsAt_vmem h_S512x512)) fun _ =>
      .op (.store (Memref.whole cc0_stg1_0) (Rect.unit (s := S2048x512) (k0_off1 d) S512x512.size (k0_off1_inb d)) (k0_pay1 v) Finset.univ (View.stores_vmem_bits_univ h_S512x512 rfl) (.inl rfl)) fun _ =>
      tail d)
    ∧ ∀ d, Runs (ops d) (tail d) := by
  refine ⟨?tail, ?eq, ?run⟩
  case eq =>
    rw [body0, cc0_body_eq_skeleton, cc0_body_skel, k0_part15_eq_skeleton]
    rfl
  case run =>
    intro d
    unfold ops
    refine .signal false _ _ rfl ?_
    refine Runs.ofRet ?_
    dsimp -zeta only
    refine .bind (runs16 ..) fun ⟨_, _⟩ => .bind (runs17 ..) fun ⟨_, _, _⟩ => .bind (runs18 ..) fun ⟨_, _, _⟩ => .bind (runs19 ..) fun ⟨_, _⟩ =>
      .bind (runs20 ..) fun ⟨_, _, _⟩ => .bind (runs21 ..) fun _ => .bind (runs22 ..) fun ⟨_, _, _⟩ => .bind (runs23 ..) fun _ => ?_
    unfold opsEnd
    extract_lets
    refine .cond1 ?_ fun k _ => by clear_value *; exact .signal true _ _ scoped_hand k
    refine .cond1 ?_ fun k _ => by clear_value *; exact .signal true _ _ scoped_hand k
    refine .cond1 ?_ fun k _ => by clear_value *; exact .waitS true 5 scoped_hand k
    refine .cond1 ?_ fun k _ => by clear_value *; exact .waitS true 4 scoped_hand k
    exact .ret _

end Cert.KernelIdeal.Gather

end
-- ==== Proof.Body.lean ====
/-
A device's whole run of the kernel's body: from its input and any output in the staging buffers to the gathered
output, with every cell closed and nothing owed.
-/
module

public import proofs.«01_k».proof.Proof.StepWp
public import proofs.«01_k».proof.Proof.Steps

@[expose] public section

set_option maxRecDepth 10000

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → InBuf F) (K : Dev nD × Fin 58 → ℕ)

/-! ## The device's own block -/

theorem off1_eq : ∀ c : Dev nD, k0_off1 c 0 = 512 * (c.val % 4) ∧ k0_off1 c 1 = 0 := by decide +kernel

theorem zeros2 : (![0, 0] : Fin 2 → Nat) = fun _ => 0 := funext fun a => by fin_cases a <;> rfl

/-- The rectangle of the output that a device's own block is. -/
abbrev ownRect (c : Dev nD) : Rect S2048x512 := Rect.unit (s := S2048x512) (k0_off1 c) S512x512.size (k0_off1_inb c)

/-- After the store, the rows of the device's own block are at their final contents. -/
theorem own_stored (c : Dev nD) (f : OutBuf F) : ∀ i ∈ ownRows c,
    ((Memref.whole cc0_stg1_0).access (ownRect c)).write (Elt F) f (k0_pay1 (xs c)) Finset.univ i = final xs c i := by
  intro i hi
  rw [mem_rset] at hi
  have hz : c.val % 4 < 4 := Nat.mod_lt _ (by decide)
  have hlt : (i 1).val < 512 := (i 1).isLt
  have ho := off1_eq c
  let j : S512x512.Idx := fun a => ⟨(![(i 0).val % 512, (i 1).val] : Fin 2 → ℕ) a, by
    fin_cases a
    · exact Nat.mod_lt _ (by decide)
    · exact hlt⟩
  have hj : ((Memref.whole cc0_stg1_0).access (ownRect c)).emb j = i := by
    funext a
    refine Fin.ext ?_
    show k0_off1 c a + 1 * (j a).val = (i a).val
    fin_cases a
    · show k0_off1 c 0 + 1 * ((i 0).val % 512) = (i 0).val
      omega
    · show k0_off1 c 1 + 1 * (i 1).val = (i 1).val
      omega
  have hw := View.write_emb_of_mem (v := (Memref.whole cc0_stg1_0).access (ownRect c)) (Val := Elt F) f (k0_pay1 (xs c)) (Finset.mem_univ j)
  rw [hj] at hw
  refine hw.trans ?_
  show k0_pay1 (xs c) j = _
  unfold final k0_pay1
  rw [org_own c ⟨(i 0).val / 64, by omega⟩ (by show (i 0).val / 64 / 8 = c.val % 4; omega)]
  exact congrFun (shapeCast_id (xs c) _) j

/-! ## The first state and the last -/

/-- What a device holds, beside its staging buffers and what it owes, before it begins. -/
def held (c : Dev nD) : sProp 𝕄 :=
  iprop(bigSep (peers c) (fun e => dutyTok ER (cell e cellA) 0 c) ∗ bigSep (peers c) (fun e => dutyTok ER (cell e cellB) 0 c)
    ∗ credH c cellA ∗ credH c cellB ∗ bigSep (outs c) (tokT c) ∗ bigSep (ins c) (credR c) ∗ bigSep Finset.univ (posAt c ∅))

theorem peers_comm (c e : Dev nD) (h : e ∈ peers c) : c ∈ peers e := by
  rw [mem_peers] at h ⊢
  rw [near_comm e c]; exact h

theorem tokA_made (c : Dev nD) : iprop(bigSep (peers c) (fun e => dutyTok ER (cell e cellA) 0 c) ∗ bigSep (ins c) (place c)) ⊢ bigSep (peers c) (tokA (F := F) c) := by
  rw [grants_made, ← bigSep_sep']
  refine bigSep_mono fun e he => ?_
  show iprop(dutyTok ER (cell e cellA) 0 c ∗ grant e c) ⊢ iprop(⌜c ∈ peers e⌝ ∗ dutyTok ER (cell e cellA) 0 c ∗ grant e c)
  iintro H
  isplitr
  · ipureintro; exact peers_comm c e he
  iexact H

theorem tokB_made (c : Dev nD) : bigSep (peers c) (fun e => dutyTok ER (cell e cellB) 0 c) ⊢ bigSep (peers c) (tokB (F := F) c) := by
  refine bigSep_mono fun e he => ?_
  show dutyTok ER (cell e cellB) 0 c ⊢ iprop(⌜c ∈ peers e⌝ ∗ dutyTok ER (cell e cellB) 0 c)
  iintro H
  isplitr
  · ipureintro; exact peers_comm c e he
  iexact H

/-- What a device begins with makes up the first state. -/
theorem res_init (c : Dev nD) : iprop(held c ∗ bigSep (ins c) (place c) ∗ bigSep (feeds0 c) (source xs c) ∗ debt c (St.init c)) ⊢ Res (F := F) xs c (St.init c) := by
  unfold held Res
  have eA : credH (F := F) c cellA ⊢ (if (St.init c).w1 then iprop(emp) else credH c cellA) := BI.Entails.refl _
  have eB : credH (F := F) c cellB ⊢ (if (St.init c).w2 then iprop(emp) else credH c cellB) := BI.Entails.refl _
  have e0 (Φ : T → sProp 𝕄) : iprop(emp) ⊢ bigSep (∅ : Finset T) Φ := Entails.of_eq (bigSep_empty (Φ := Φ)).symm
  iintro ⟨⟨HA, HB, HcA, HcB, HT, HR, Hp⟩, Hpl, Hsrc, HO⟩
  isplitl [HA Hpl]
  · iapply (tokA_made c)
    isplitl [HA] <;> iassumption
  isplitl [HB]
  · iapply (tokB_made c); iexact HB
  isplitl [HcA]
  · iapply eA; iexact HcA
  isplitl [HcB]
  · iapply eB; iexact HcB
  isplitl [HT]; · iexact HT
  isplitr
  · iapply (e0 _); iempintro
  isplitr
  · iapply (e0 _); iempintro
  isplitl [Hsrc]; · iexact Hsrc
  isplitl [HR]; · iexact HR
  isplitr
  · iapply (e0 _); iempintro
  isplitl [Hp]; · iexact Hp
  iexact HO

/-- A cell at the end closes, at zero: its one round is over, or it has none. -/
theorem shut (c : Dev nD) (s : St) (h : s.final c) (j : Fin 58) : iprop(records xs K ∗ posAt c s.dn j) ⊢ (iprop(|={Set.univ}=> semVal (cell c j) 0) : sProp 𝕄) := by
  obtain ⟨-, -, -, -, -, -, -, -, -, -, hA, hB, hS, hR⟩ := h
  have e {R : ℕ} (hp : posAt (F := F) c s.dn j ⊢ atPos ER (cell c j) R ∅ 0) (hd : ∀ r, R ≤ r → (rd (F := F) xs).duties (cell c j) r = ∅) :
      iprop(records xs K ∗ posAt c s.dn j) ⊢ (iprop(|={Set.univ}=> semVal (cell c j) 0) : sProp 𝕄) :=
    (BI.sep_mono (records_inv xs K c j) hp).trans (Rounds.cell_close ER (rd xs) (Set.mem_univ (K (c, j))) (fun h => h) hd)
  by_cases hj : j ∈ s.dn
  · exact e (R := 1) (by unfold posAt; rw [if_pos hj]) (duties_later xs _)
  · refine e (R := 0) (by unfold posAt; rw [if_neg hj]) fun r _ => ?_
    rcases Nat.eq_zero_or_pos r with rfl | hr
    · rcases cell_cases j with ⟨t, rfl⟩ | ⟨t, rfl⟩ | rfl | rfl
      · rw [duties_s, if_neg fun ht => hj (hS t (mem_outs.mpr ht))]
      · rw [duties_r, if_neg fun ht => hj (hR t (mem_ins.mpr ht))]
      · exact absurd hA hj
      · exact absurd hB hj
    · exact duties_later xs _ r hr

/-- All of a device's cells at zero. -/
def allZero (c : Dev nD) : sProp 𝕄 := bigSep Finset.univ fun j => semVal (cell c j) 0

theorem shut_all (c : Dev nD) (s : St) (h : s.final c) : iprop(records xs K ∗ bigSep Finset.univ (posAt c s.dn)) ⊢ (iprop(|={Set.univ}=> allZero c) : sProp 𝕄) :=
  (bigSep_with_persistent fun j _ => shut xs K c s h j).trans (bigSep_fupd _ _)

/-- The device owes nothing. -/
def paid (c : Dev nD) : sProp 𝕄 := iprop(∃ W, owes (c : Thread nD τ) 0 W)

/-- The last state: the whole output gathered, the cells' positions, nothing owed. -/
theorem res_final (c : Dev nD) (s : St) (h : s.final c) (S : Finset S2048x512.Idx) (hS : ∀ i, i ∈ S) :
    iprop(Res (F := F) xs c s ∗ ownSpare xs c) ⊢ iprop(has xs c S fullShare ∗ bigSep Finset.univ (posAt c s.dn) ∗ paid c) := by
  obtain ⟨h1, h2, -, -, h5, -, -, h8, -, h10, -⟩ := h
  have ho : debt (F := F) c s ⊢ paid c := by
    unfold debt paid owing
    rw [h1, h2, h5, Finset.sum_empty, Finset.sum_empty, Finset.sum_empty, add_zero, add_zero]
  unfold Res
  rw [h8, h10]
  iintro ⟨⟨-, -, -, -, -, -, -, Hsrc, -, Hsp, Hp, HO⟩, Hown⟩
  isplitl [Hsrc Hsp Hown]
  · iapply (whole_join xs c S hS)
    isplitl [Hsrc]; · iexact Hsrc
    isplitl [Hsp] <;> iassumption
  isplitl [Hp]; · iexact Hp
  iapply ho; iexact HO

/-! ## The run -/

/-- A device's input in its staging buffer. -/
def input (c : Dev nD) : sProp 𝕄 := ((c : Thread nD τ).loc cc0_stg0_0) ↦{fullShare} xs c

/-- What a device holds at the end. -/
def ending (c : Dev nD) : sProp 𝕄 :=
  iprop(allZero c ∗ paid c ∗ input xs c ∗ ((outLoc c) ↦{fullShare} final xs c))

/-- The steps after the store. -/
theorem tail_run (c : Dev nD) {p : Prg F PUnit} (hp : Runs (ops c) p) :
    iprop(records xs K ∗ Res xs c (St.init c) ∗ ownSpare xs c ∗ input xs c) ⊢ Run c p (fun _ => ending xs c) := by
  refine runs_run xs K c iprop(ownSpare xs c ∗ input xs c) hp _ (plan_ok c) fun s r h => ?_
  show (_ : sProp 𝕄) ⊢ _
  iintro ⟨#HR, HS, Hown, Hx⟩
  ihave H := (res_final xs c s h Finset.univ (fun i => Finset.mem_univ i)) $$ [HS Hown]
  · isplitl [HS] <;> iassumption
  icases H with ⟨Hout, Hp, HO⟩
  rw [Run, wp_ret]
  imod (shut_all xs K c s h) $$ [Hp] with Hz
  · isplitr; · iexact HR
    iexact Hp
  imodintro
  unfold ending
  isplitl [Hz]; · iexact Hz
  isplitl [HO]; · iexact HO
  isplitl [Hx]; · iexact Hx
  unfold has
  iexact Hout

/-- What the body loads of its input is all of it. -/
theorem input_read (f : InBuf F) :
    (Memref.whole cc0_stg0_0).view.readAt (Elt F) (Rect.unit (s := S512x512) ![0, 0] S512x512.size inb_S512x512_S512x512_0_0).toLoadRect f = f :=
  Memref.readAt_unit_zero (Elt F) cc0_stg0_0 zeros2 _ f

/-- The body. -/
theorem body_run (c : Dev nD) (f : Buf (Elt F) (outLoc c)) :
    iprop(records xs K ∗ held c ∗ debt c (St.init c) ∗ input xs c ∗ ((outLoc c) ↦{fullShare} f)) ⊢ Run c body0 (fun _ => ending xs c) := by
  obtain ⟨tail, e, ht⟩ := body_runs (F := F)
  rw [e, Run, wp_deviceId]
  unfold input
  iintro ⟨#HR, Hh, HO, Hx, Hout⟩
  iapply (wp_load 𝒱₀ (c : Thread nD τ) none Set.univ (m := Memref.whole cc0_stg0_0) (Finset.subset_univ _)) $$ Hx; iintro Hx
  rw [input_read]
  iapply (wp_load 𝒱₀ (c : Thread nD τ) none Set.univ (m := Memref.whole cc0_stg1_0) (Finset.subset_univ _)) $$ Hout; iintro Hout
  iapply (wp_store 𝒱₀ (c : Thread nD τ) none Set.univ (m := Memref.whole cc0_stg1_0) (r := ownRect c) (Mk := Finset.univ) (Finset.subset_univ _)) $$ Hout; iintro Hout
  ihave Hst := (whole_start xs c _ (own_stored xs c f) Finset.univ (fun i => Finset.mem_univ i)) $$ Hout
  icases Hst with ⟨⟨Hsrc, Hown⟩, Hpl⟩
  iapply (tail_run xs K c (ht c))
  isplitr; · iexact HR
  isplitl [Hh HO Hsrc Hpl]
  · iapply (res_init xs c)
    isplitl [Hh]; · iexact Hh
    isplitl [Hpl]; · iexact Hpl
    isplitl [Hsrc] <;> iassumption
  isplitl [Hown]; · iexact Hown
  unfold input
  iexact Hx

end Cert.KernelIdeal.Gather

end
-- ==== Proof.Deal.lean ====
/-
What the launch deals out: the semaphores of the cells, the tokens of the duties from the devices whose cells they
are for to the devices that pay them, and each device's rights to wait for what the others owe it.
-/
module

public import proofs.«01_k».proof.Proof.Body

@[expose] public section

set_option maxRecDepth 10000

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells by kind -/

theorem sNo_injective : Function.Injective sNo := fun t u h => by
  have h' : sIdx t = sIdx u := by rw [← sNo_val, ← sNo_val, h]
  rw [← tOf_sIdx t, ← tOf_sIdx u, h']

theorem nos_apart : Disjoint (Finset.univ.map ⟨sNo, sNo_injective⟩ : Finset (Fin 58)) (Finset.univ.map ⟨rNo, rNo_injective⟩) := by decide +kernel
theorem nos_rest : ((Finset.univ : Finset (Fin 58)).erase cellA).erase cellB = Finset.univ.map ⟨sNo, sNo_injective⟩ ∪ Finset.univ.map ⟨rNo, rNo_injective⟩ := by decide +kernel

/-- Something of every cell: of the two handshakes' cells, and of the senders' and the receivers'. -/
theorem all_cells (Ψ : Fin 58 → sProp 𝕄) :
    bigSep Finset.univ Ψ = iprop(Ψ cellA ∗ Ψ cellB ∗ bigSep Finset.univ (fun t => Ψ (sNo t)) ∗ bigSep Finset.univ (fun t => Ψ (rNo t))) := by
  rw [bigSep_univ_at Ψ cellA, all_erase (i := cellB) (by decide) Ψ, nos_rest, all_union nos_apart, bigSep_map, bigSep_map]
  rfl

/-! ## The semaphores -/

/-- The kernel's own semaphores: all cells' but the first handshake's. -/
def osem (k : Fin 57) : SemLoc sig := semOf (cellA.succAbove k)

theorem own_facts : Pipeline.OwnSemFacts cfg0.spec osem where
  isScoped := by decide +kernel
  inj := semOf_injective.comp Fin.succAbove_right_injective
  disj := by decide +kernel

theorem own_nos : (Finset.univ : Finset (Fin 58)).erase cellA = Finset.univ.map ⟨cellA.succAbove, Fin.succAbove_right_injective⟩ := by decide +kernel

/-- The kernel's own semaphores and the first handshake's, at zero, are the cells at zero. -/
theorem sems_eq (c : Dev nD) :
    iprop(Pipeline.ownSems0 (Ix := Unit) (Name := ℕ) (U := UU) (Lvl := ℕ) (Val := Elt F) (τ := τ) osem c ∗ unscopedSems0 c) = (allZero c : sProp 𝕄) := by
  have hu : (unscopedSems0 c : sProp 𝕄) = semVal (cell c cellA) 0 := by
    unfold unscopedSems0; rw [bigSep_eq_bigSepL_of_eq [semOf cellA] (by decide +kernel) (by decide)]; rfl
  unfold allZero Pipeline.ownSems0
  rw [hu, bigSep_univ_at _ cellA, own_nos, bigSep_map]
  exact BI.Entails.antisymm BI.sep_comm BI.sep_comm

/-! ## The tokens -/

/-- One token for each device at each cell. -/
def tokens (c : Dev nD) : sProp 𝕄 := bigSep Finset.univ fun j : Fin 58 => bigSep Finset.univ fun d : Dev nD => dutyTok ER (cell c j) 0 d

/-- The tokens device `c` pays with. -/
def payToks (c : Dev nD) : sProp 𝕄 :=
  iprop(bigSep (peers c) (fun e => dutyTok ER (cell e cellA) 0 c) ∗ bigSep (peers c) (fun e => dutyTok ER (cell e cellB) 0 c) ∗ bigSep (outs c) (tokT c))

theorem hands_around (j : Fin 58) :
    (bigSep Finset.univ fun e : Dev nD => bigSep Finset.univ fun d : Dev nD => (dutyTok ER (cell e j) 0 d : sProp 𝕄))
      ⊢ bigSep Finset.univ fun c : Dev nD => bigSep (peers c) fun e => dutyTok ER (cell e j) 0 c := by
  rw [bigSep_univ_comm]
  exact bigSep_mono fun c _ => bigSep_subset (Finset.subset_univ _)

theorem senders_own :
    (bigSep Finset.univ fun e : Dev nD => bigSep Finset.univ fun t : T => bigSep Finset.univ fun d : Dev nD => (dutyTok ER (cell e (sNo t)) 0 d : sProp 𝕄))
      ⊢ bigSep Finset.univ fun c : Dev nD => bigSep (outs c) fun t => dutyTok ER (cell c (sNo t)) 0 (0 : Fin 16) :=
  bigSep_mono fun c _ => (bigSep_subset (Finset.subset_univ _)).trans (bigSep_mono fun t _ => bigSep_elim (Finset.mem_univ _))

/-- Something of every copy of every device, as something of pairs. -/
theorem of_pairs (p : Dev nD → T → Bool) (Φ : Dev nD → T → sProp 𝕄) :
    (bigSep Finset.univ fun e : Dev nD => bigSep (Finset.univ.filter fun t => p e t = true) (Φ e))
      = bigSep (Finset.univ.filter fun x : Dev nD × T => p x.1 x.2 = true) fun x => Φ x.1 x.2 := by
  simp only [bigSep_filter]
  rw [bigSep_univ_prod]

theorem arrivals_eq : (Finset.univ.filter fun x : Dev nD × T => gets x.1 x.2 = true)
    = (Finset.univ.filter fun x : Dev nD × T => sends x.1 x.2 = true).image fun x => (dst x.1 x.2, x.2) := by
  ext ⟨e, t⟩
  simp only [Finset.mem_image, Finset.mem_filter, Finset.mem_univ, true_and, Prod.exists, Prod.mk.injEq]
  exact ⟨fun h => ⟨src e t, t, sends_src e t h, dst_src e t h, rfl⟩, fun ⟨c, u, h, he, hu⟩ => by subst hu; exact he ▸ gets_dst c u h⟩

theorem departs_inj : Set.InjOn (fun x : Dev nD × T => (dst x.1 x.2, x.2)) (Finset.univ.filter fun x : Dev nD × T => sends x.1 x.2 = true : Finset (Dev nD × T)) := by
  rintro ⟨c, t⟩ hc ⟨e, u⟩ he h
  have hc' : sends c t = true := (Finset.mem_filter.mp hc).2
  have he' : sends e u = true := (Finset.mem_filter.mp he).2
  have ht : t = u := congrArg Prod.snd h
  subst ht
  have h' : dst c t = dst e t := congrArg Prod.fst h
  rw [← src_dst c t hc', ← src_dst e t he', h']

/-- Something of every receiver of every copy, dealt to the senders. -/
theorem to_senders (Φ : Dev nD → T → sProp 𝕄) :
    (bigSep Finset.univ fun e : Dev nD => bigSep (ins e) (Φ e)) = bigSep Finset.univ fun c : Dev nD => bigSep (outs c) fun t => Φ (dst c t) t := by
  have h1 := of_pairs (fun e t => gets e t) Φ
  rw [arrivals_eq, bigSep_image_of_injOn departs_inj] at h1
  exact h1.trans (of_pairs (fun c t => sends c t) fun c t => Φ (dst c t) t).symm

theorem getters_give :
    (bigSep Finset.univ fun e : Dev nD => bigSep Finset.univ fun t : T => bigSep Finset.univ fun d : Dev nD => (dutyTok ER (cell e (rNo t)) 0 d : sProp 𝕄))
      ⊢ bigSep Finset.univ fun c : Dev nD => bigSep (outs c) fun t => dutyTok ER (cell (dst c t) (rNo t)) 0 (0 : Fin 16) := by
  rw [← to_senders (fun e t => dutyTok ER (cell e (rNo t)) 0 (0 : Fin 16))]
  exact bigSep_mono fun c _ => (bigSep_subset (Finset.subset_univ _)).trans (bigSep_mono fun t _ => bigSep_elim (Finset.mem_univ _))

/-- The tokens dealt to the devices that pay with them. -/
theorem toks_around : (bigSep Finset.univ fun c : Dev nD => (tokens c : sProp 𝕄)) ⊢ bigSep Finset.univ fun c : Dev nD => payToks c := by
  have e : (bigSep Finset.univ fun c : Dev nD => (tokens c : sProp 𝕄))
      = bigSep Finset.univ fun c : Dev nD => iprop((bigSep Finset.univ fun d : Dev nD => dutyTok ER (cell c cellA) 0 d) ∗ (bigSep Finset.univ fun d : Dev nD => dutyTok ER (cell c cellB) 0 d)
          ∗ (bigSep Finset.univ fun t : T => bigSep Finset.univ fun d : Dev nD => dutyTok ER (cell c (sNo t)) 0 d)
          ∗ (bigSep Finset.univ fun t : T => bigSep Finset.univ fun d : Dev nD => dutyTok ER (cell c (rNo t)) 0 d)) :=
    bigSep_congr fun c _ => all_cells _
  have e' (c : Dev nD) : (bigSep (outs c) (tokT c) : sProp 𝕄)
      = iprop((bigSep (outs c) fun t => dutyTok ER (cell c (sNo t)) 0 (0 : Fin 16)) ∗ (bigSep (outs c) fun t => dutyTok ER (cell (dst c t) (rNo t)) 0 (0 : Fin 16))) :=
    bigSep_sep' _ _ _
  unfold payToks
  simp only [e']
  rw [e, bigSep_sep', bigSep_sep', bigSep_sep', bigSep_sep', bigSep_sep', bigSep_sep']
  exact BI.sep_mono (hands_around cellA) (BI.sep_mono (hands_around cellB) (BI.sep_mono senders_own getters_give))

/-! ## The rights to wait -/

/-- What a device owes at first. -/
abbrev owed0 (c : Dev nD) : CellTallies nD τ sig Unit := owing c (St.init c)

/-- A sum of tallies of one cell each, at a cell. -/
theorem tally_sum {I : Type} (S : Finset I) (f : I → GSem nD τ sig) (n : I → ℕ) (g : GSem nD τ sig) :
    (∑ i ∈ S, tallyAt (f i) () (n i)) g () = ∑ i ∈ S, if g = f i then n i else 0 := by
  rw [Finset.sum_apply, Finsupp.finset_sum_apply]
  refine Finset.sum_congr rfl fun i _ => ?_
  rw [tallyAt_apply]
  by_cases h : g = f i
  · rw [if_pos ⟨h, rfl⟩, if_pos h]
  · rw [if_neg fun h' => h h'.1, if_neg h]

theorem owed0_at (d : Dev nD) (g : GSem nD τ sig) : owed0 d g ()
    = (∑ e ∈ peers d, if g = cell e cellA then 1 else 0) + (∑ e ∈ peers d, if g = cell e cellB then 1 else 0)
      + ∑ t ∈ outs d, if g = cell (dst d t) (rNo t) then worth (big t) else 0 := by
  show owing d (St.init d) g () = _
  unfold owing
  rw [Pi.add_apply, Pi.add_apply, Finsupp.add_apply, Finsupp.add_apply, tally_sum, tally_sum, tally_sum]
  rfl

theorem no_sum {I : Type} (S : Finset I) (p : I → Prop) [DecidablePred p] (n : I → ℕ) (h : ∀ i ∈ S, ¬p i) : (∑ i ∈ S, if p i then n i else 0) = 0 :=
  Finset.sum_eq_zero fun i hi => if_neg (h i hi)

theorem one_sum (c e : Dev nD) (j : Fin 58) : (∑ i ∈ peers c, if cell e j = cell i j then 1 else 0) = if c ∈ peers e then 1 else 0 := by
  have h (i : Dev nD) : (if cell e j = cell i j then 1 else 0) = if e = i then 1 else 0 := by
    by_cases hi : e = i
    · rw [if_pos hi, if_pos (by rw [hi])]
    · rw [if_neg hi, if_neg fun h => hi (cell_inj h).1]
  rw [Finset.sum_congr rfl fun i _ => h i, Finset.sum_ite_eq]
  by_cases hc : e ∈ peers c
  · rw [if_pos hc, if_pos (peers_comm c e hc)]
  · rw [if_neg hc, if_neg fun h => hc (peers_comm e c h)]

theorem owed0_A (d e : Dev nD) : owed0 d (cell e cellA) () = if d ∈ peers e then 1 else 0 := by
  rw [owed0_at, one_sum, no_sum _ _ _ fun i _ h => absurd (cell_inj h).2 (by decide), no_sum _ _ _ fun t _ h => rNo_ne_A t (cell_inj h).2.symm, add_zero, add_zero]
theorem owed0_B (d e : Dev nD) : owed0 d (cell e cellB) () = if d ∈ peers e then 1 else 0 := by
  rw [owed0_at, one_sum, no_sum _ _ _ fun i _ h => absurd (cell_inj h).2 (by decide), no_sum _ _ _ fun t _ h => rNo_ne_B t (cell_inj h).2.symm, zero_add, add_zero]
theorem owed0_r (d e : Dev nD) (t : T) (h : gets e t = true) : owed0 d (cell e (rNo t)) () = if d = src e t then worth (big t) else 0 := by
  rw [owed0_at, no_sum _ _ _ fun i _ h => rNo_ne_A t (cell_inj h).2, no_sum _ _ _ fun i _ h => rNo_ne_B t (cell_inj h).2, zero_add, zero_add]
  by_cases hd : d = src e t
  · subst hd
    have ho : t ∈ outs (src e t) := mem_outs.mpr (sends_src e t h)
    rw [if_pos rfl, Finset.sum_eq_single_of_mem t ho fun u _ hu => if_neg fun h' => hu (rNo_injective (cell_inj h').2).symm, dst_src e t h, if_pos rfl]
  · rw [if_neg hd]
    refine no_sum _ _ _ fun u hu h' => hd ?_
    have h2 := rNo_injective (cell_inj h').2
    subst h2
    rw [(cell_inj h').1, src_dst d t (mem_outs.mp hu)]

/-- The right that the launch gives at a cell is for what all devices owe it. -/
theorem right_at (g : GSem nD τ sig) (n : ℕ) (h : (∑ d : Dev nD, owed0 d g ()) = n) :
    tallyOn g (launchCredit (Pipeline.owing owed0) 0 g) = (tallyAt g () n : CellTallies nD τ sig Unit) := by
  unfold tallyAt
  refine congrArg _ (Finsupp.ext fun u => ?_)
  cases u
  rw [Pipeline.launchCredit_owing, Finsupp.single_eq_same, h]

theorem right_A (c : Dev nD) : (∑ d : Dev nD, owed0 d (cell c cellA) ()) = (peers c).card := by
  rw [Finset.sum_congr rfl fun d _ => owed0_A d c, Finset.sum_ite_mem, Finset.univ_inter, Finset.sum_const, smul_eq_mul, mul_one]
theorem right_B (c : Dev nD) : (∑ d : Dev nD, owed0 d (cell c cellB) ()) = (peers c).card := by
  rw [Finset.sum_congr rfl fun d _ => owed0_B d c, Finset.sum_ite_mem, Finset.univ_inter, Finset.sum_const, smul_eq_mul, mul_one]
theorem right_r (c : Dev nD) (t : T) (h : gets c t = true) : (∑ d : Dev nD, owed0 d (cell c (rNo t)) ()) = worth (big t) := by
  rw [Finset.sum_congr rfl fun d _ => owed0_r d c t h, Finset.sum_ite_eq', if_pos (Finset.mem_univ _)]

/-- Each device's rights: to wait for both handshakes, and for every copy it receives. -/
theorem rights (c : Dev nD) : (Pipeline.launchCred owed0 c : sProp 𝕄) ⊢ iprop(credH c cellA ∗ credH c cellB ∗ bigSep (ins c) (credR c)) := by
  have hsub : (Finset.univ.map ⟨semOf, semOf_injective⟩ : Finset (SemLoc sig)) ⊆ Finset.univ := Finset.subset_univ _
  unfold Pipeline.launchCred
  refine (bigSep_subset hsub).trans ?_
  rw [bigSep_map, all_cells]
  refine BI.sep_mono ?_ (BI.sep_mono ?_ ?_)
  · show cred (tallyOn (cell c cellA) (launchCredit (Pipeline.owing owed0) 0 (cell c cellA))) ⊢ credH c cellA
    rw [right_at _ _ (right_A c)]
    exact BI.Entails.refl _
  · show cred (tallyOn (cell c cellB) (launchCredit (Pipeline.owing owed0) 0 (cell c cellB))) ⊢ credH c cellB
    rw [right_at _ _ (right_B c)]
    exact BI.Entails.refl _
  · refine (show iprop((_ : sProp 𝕄) ∗ _) ⊢ _ from by iintro ⟨-, H⟩; iexact H : iprop((_ : sProp 𝕄) ∗ _) ⊢ _).trans ((bigSep_subset (Finset.subset_univ (ins c))).trans (bigSep_mono fun t ht => ?_))
    show cred (tallyOn (cell c (rNo t)) (launchCredit (Pipeline.owing owed0) 0 (cell c (rNo t)))) ⊢ credR c t
    rw [right_at _ _ (right_r c t (mem_ins.mp ht))]
    exact BI.Entails.refl _

end Cert.KernelIdeal.Gather

end
-- ==== Proof.Launch.lean ====
/-
The launch: the whole program on sixteen devices, for any float values. Each device's result ends at the gathered
contents, its input as it was, every semaphore at zero.
-/
module

public import proofs.«01_k».proof.Proof.Deal
public import proofs.«01_k».proof.Proof.Gen.KernelIdeal.Points
public import Idealize.ShloMosaic.Lib.Pipeline.Quiescent

@[expose] public section

set_option maxRecDepth 10000

noncomputable section

namespace Cert.KernelIdeal.Gather

open Cert.KernelIdeal Cert.KernelIdeal.Gen
open Idealize.ShloMosaic
open Idealize.ShloMosaic.TcCoe
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory the program starts from: every semaphore at zero. -/
abbrev begin0 : MemSt nD τ sig (Elt F) := ⟨m, fun _ => 0, ρ⟩

/-- The input of device `c`, as its staging buffer gets it. -/
def xin (c : Dev nD) : InBuf F := (win0_0.blk (0 : Fin 1)).view.read (Elt F) (m ((c : Thread nD τ).loc main_arg0))

/-! ## The body, as the launch calls it -/

/-- What device `c` starts its body with beside its buffers and its debt. -/
def start (c : Dev nD) : sProp 𝕄 := iprop(∃ K, records (xin m) K ∗ held c)

/-- What the launch is told of device `c`: the contents of the buffers, what is held before and after the body, what is owed. -/
def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => final (xin m) c
  Φ t := match t with
    | ⟨0, _⟩ => start m c
    | ⟨_ + 1, _⟩ => allZero c
  q _ := fullShare
  owed t := match t with
    | ⟨0, _⟩ => owed0 c
    | ⟨_ + 1, _⟩ => 0

theorem each_window (Φ : Fin cfg0.W → sProp 𝕄) : bigSep Finset.univ Φ = iprop(Φ (0 : Fin 2) ∗ Φ (1 : Fin 2)) := bigSep_W0 Φ

/-- A whole buffer at contents `X`. -/
abbrev bufIs (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_bufIs (c : Dev nD) (b : Ref sig .tc) (X : b.ty.Contents (Elt F)) :
    (owns (Ix := Unit) (Name := ℕ) (U := UU) (Lvl := ℕ) (c : Thread nD τ) (Memref.whole b) fullShare X : sProp 𝕄) = bufIs c b X := by
  unfold owns; simp only [Memref.view_whole, View.read_whole, View.set_whole]

def before0 (c : Dev nD) : sProp 𝕄 :=
  iprop(start m c ∗ (dats m 0 c).owesAt () t0_0.castSucc ∗ (∃ d, bufIs c cc0_stg0_0 ((dats m 0 c).before (0 : Fin 2) t0_0 d))
    ∗ (∃ d, bufIs c cc0_stg1_0 ((dats m 0 c).before (1 : Fin 2) t0_0 d)))
def after0 (c : Dev nD) : sProp 𝕄 :=
  iprop(allZero c ∗ (dats m 0 c).owesAt () t0_0.succ ∗ bufIs c cc0_stg0_0 (xin m c) ∗ bufIs c cc0_stg1_0 (final (xin m) c))

/-- The debt as the launch writes it is the body's, before and after. -/
theorem debt_before (c : Dev nD) : (dats m 0 c).owesAt () t0_0.castSucc ⊢ debt (F := F) c (St.init c) := by
  unfold Dat.owesAt Pipeline.owesWithin debt
  iintro ⟨%W, -, HO⟩
  iexists W
  iexact HO
theorem debt_after (c : Dev nD) : paid c ⊢ (dats m 0 c).owesAt () t0_0.succ := by
  unfold Dat.owesAt Pipeline.owesWithin paid
  iintro ⟨%W, HO⟩
  iexists W
  isplitr; · ipureintro; exact fun _ _ => Or.inl trivial
  iexact HO

theorem ending_after (c : Dev nD) : ending (xin m) c ⊢ after0 m c := by
  unfold ending after0 input
  iintro ⟨Hz, Hp, Hx, Ho⟩
  isplitl [Hz]; · iexact Hz
  isplitl [Hp]; · iapply (debt_after m c); iexact Hp
  isplitl [Hx]
  · iexists _; isplitr; · (ipureintro; rfl)
    iexact Hx
  · iexists _; isplitr; · (ipureintro; rfl)
    iexact Ho

theorem body_whole (c : Dev nD) : before0 m c ⊢ Run c body0 (fun _ => after0 m c) := by
  have h (K : Dev nD × Fin 58 → ℕ) (g : Buf (Elt F) (outLoc c)) : iprop(records (xin m) K ∗ held c ∗ debt c (St.init c) ∗ input (xin m) c ∗ ((outLoc c) ↦{fullShare} g))
      ⊢ Run c body0 (fun _ => after0 m c) :=
    (body_run (xin m) K c g).trans (wp_mono _ _ _ fun _ => ending_after m c)
  unfold before0 start
  iintro ⟨⟨%K, #HR, Hh⟩, Ho, ⟨%d0, %g0, %hg0, Hx⟩, ⟨%d1, %g1, %hg1, Hout⟩⟩
  have hx : g0 = xin m c := by rw [hg0]; unfold Dat.before; rw [if_pos (fetch0_0 t0_0)]; rfl
  subst hx
  iapply (h K g1)
  isplitr; · iexact HR
  isplitl [Hh]; · iexact Hh
  isplitl [Ho]; · iapply (debt_before m c); iexact Ho
  isplitl [Hx]; · unfold input; iexact Hx
  iexact Hout

/-- The library's obligation on device `c`. -/
theorem obligation (c : Dev nD) : BodyObligation (dats (F := F) m 0 c) (defs₀ (F := F)) 𝒱₀ () Set.univ := fun t => by
  rw [show t = t0_0 from fin_N0 t]
  rw [each_window, each_window]
  simp only [owns_bufIs]
  show before0 m c ⊢ Run c body0 (fun _ => after0 m c)
  exact body_whole m c

/-! ## The launch's resources -/

theorem share_eq (c : Dev nD) (w : Fin cfg0.W) : (dats m 0 c).share w = fullShare := by unfold Dat.share; split <;> rfl

abbrev cell2 (x : Dev nD × Fin 58) : GSem nD τ sig := cell x.1 x.2
theorem cell2_injective : Function.Injective cell2 := fun ⟨c, i⟩ ⟨e, j⟩ h => by
  obtain ⟨h1, h2⟩ := cell_inj h
  exact Prod.ext h1 h2
def allCells : Finset (GSem nD τ sig) := Finset.univ.map ⟨cell2, cell2_injective⟩

abbrev tok3 (x : Dev nD × Fin 58 × Dev nD) : GSem nD τ sig × ℕ × Dev nD := (cell x.1 x.2.1, 0, x.2.2)
theorem tok3_injective : Function.Injective tok3 := fun ⟨c, i, d⟩ ⟨e, j, d'⟩ h => by
  obtain ⟨h1, h2⟩ := cell_inj (congrArg Prod.fst h)
  have h3 : d = d' := congrArg (fun x => x.2.2) h
  exact Prod.ext h1 (Prod.ext h2 h3)
def allToks : Finset (GSem nD τ sig × ℕ × Dev nD) := Finset.univ.map ⟨tok3, tok3_injective⟩

/-- The ghost state at the launch: the pipeline's, and the protocol's with every cell and every token. -/
def ghost0 : UU := (initOf (Pipeline.cells cfgs cellOf_inj) (Pipeline.launchToks cfgs cellOf_inj), initOf allCells allToks)

/-- What device `c` is dealt of it, -/
def dealt (c : Dev nD) : sProp 𝕄 :=
  iprop((bigSep Finset.univ fun j : Fin 58 => roundState ER (rd (xin m)) (cell c j) 0)
    ∗ (bigSep Finset.univ fun j : Fin 58 => iprop(atPos ER (cell c j) 0 ∅ 0 ∗ reached ER (cell c j) 0)) ∗ tokens c)
/-- and what becomes of that once the invariants are made and the tokens are around. -/
def given (c : Dev nD) : sProp 𝕄 :=
  iprop(∃ K : Dev nD × Fin 58 → ℕ, ((bigSep Finset.univ fun x : Dev nD × Fin 58 => cellInv ER (rd (xin m)) (K x) (cell x.1 x.2))
      ∗ (bigSep Finset.univ fun x : Dev nD × Fin 58 => reached ER (cell x.1 x.2) 0)) ∗ payToks c ∗ bigSep Finset.univ (posAt c ∅))

theorem deal : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun j : Fin 58 => Φ (cell c j) := by
    unfold allCells; rw [bigSep_map, bigSep_univ_prod]; rfl
  have hT : bigSep allToks (fun x => (dutyTok ER x.1 x.2.1 x.2.2 : sProp 𝕄)) = bigSep Finset.univ fun c : Dev nD => tokens c := by
    unfold allToks; rw [bigSep_map, bigSep_univ_prod]
    exact bigSep_congr fun c _ => by unfold tokens; rw [bigSep_univ_prod]; rfl
  iintro H
  imod (Rounds.fund ER (rd (xin m)) allCells allToks) $$ H with ⟨Hst, Hr, Hat, Htok⟩
  imodintro
  ihave Hst' := (Entails.of_eq (hX fun g => roundState ER (rd (xin m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- A device's cells' invariants are made from its semaphores at zero. -/
theorem make_invs (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun j : Fin 58 => iprop(∃ κ : ℕ, cellInv ER (rd (xin m)) κ (cell c j)))
          ∗ (bigSep Finset.univ fun j : Fin 58 => iprop(atPos ER (cell c j) 0 ∅ 0 ∗ reached ER (cell c j) 0)) ∗ tokens c) := by
  have hI : iprop(allZero c ∗ bigSep Finset.univ fun j : Fin 58 => roundState ER (rd (xin m)) (cell c j) 0)
      ⊢ (|={Set.univ}=> bigSep Finset.univ fun j : Fin 58 => iprop(∃ κ : ℕ, cellInv ER (rd (xin m)) κ (cell c j)) : sProp 𝕄) := by
    unfold allZero
    rw [← bigSep_sep']
    exact (bigSep_mono fun j _ => (Rounds.body_intro ER (rd (xin m)) (cell c j)).trans inv_alloc).trans (bigSep_fupd _ _)
  unfold dealt
  iintro ⟨Hos, Hus, Hst, Hat, Htok⟩
  ihave Hv := (Entails.of_eq (sems_eq (F := F) c)) $$ [Hos Hus]
  · isplitl [Hos] <;> iassumption
  imod hI $$ [Hv Hst] with Hinv
  · isplitl [Hv] <;> iassumption
  imodintro
  isplitl [Hinv]; · iexact Hinv
  isplitl [Hat]; · iexact Hat
  iexact Htok

theorem pos_start (c : Dev nD) : (bigSep Finset.univ fun j : Fin 58 => (atPos ER (cell c j) 0 ∅ 0 : sProp 𝕄)) = bigSep Finset.univ (posAt c ∅) :=
  bigSep_congr fun j _ => by unfold posAt; rw [if_neg (Finset.notMem_empty j)]

/-- The names of all invariants are collected, and the tokens go around. -/
theorem collect :
    (bigSep Finset.univ fun c : Dev nD => iprop((bigSep Finset.univ fun j : Fin 58 => iprop(∃ κ : ℕ, cellInv ER (rd (xin m)) κ (cell c j)))
          ∗ (bigSep Finset.univ fun j : Fin 58 => iprop(atPos ER (cell c j) 0 ∅ 0 ∗ reached ER (cell c j) 0)) ∗ tokens c) : sProp 𝕄)
      ⊢ bigSep Finset.univ (given m) := by
  rw [bigSep_sep', bigSep_sep', ← bigSep_univ_prod (fun x : Dev nD × Fin 58 => iprop(∃ κ : ℕ, cellInv ER (rd (xin m)) κ (cell x.1 x.2))),
    bigSep_congr (s := Finset.univ) (fun (c : Dev nD) _ => bigSep_sep' Finset.univ (fun j : Fin 58 => (atPos ER (cell c j) 0 ∅ 0 : sProp 𝕄)) (fun j => reached ER (cell c j) 0)),
    bigSep_sep', ← bigSep_univ_prod (fun x : Dev nD × Fin 58 => (reached ER (cell x.1 x.2) 0 : sProp 𝕄)),
    bigSep_congr (s := Finset.univ) (fun (c : Dev nD) _ => pos_start (F := F) c)]
  iintro ⟨HI, ⟨Hat, #HR⟩, Htok⟩
  ihave HK := (BI.bigSep_exists_pi Finset.univ (fun (x : Dev nD × Fin 58) (κ : ℕ) => (cellInv ER (rd (xin m)) κ (cell x.1 x.2) : sProp 𝕄))) $$ HI
  icases HK with ⟨%K, #HI⟩
  ihave Htk := (toks_around (F := F)) $$ Htok
  iapply (bigSep_with_persistent (R := iprop((bigSep Finset.univ fun x : Dev nD × Fin 58 => cellInv ER (rd (xin m)) (K x) (cell x.1 x.2))
      ∗ (bigSep Finset.univ fun x : Dev nD × Fin 58 => reached ER (cell x.1 x.2) 0))) (Φ := fun c : Dev nD => iprop(payToks c ∗ bigSep Finset.univ (posAt c ∅)))
      fun c _ => show _ ⊢ given m c from by unfold given; iintro ⟨HR, Ht⟩; iexists K; isplitl [HR] <;> iassumption)
  isplitr
  · isplitl; · iexact HI
    iexact HR
  · rw [bigSep_sep']
    isplitl [Htk]; · iexact Htk
    iexact Hat

theorem all_made :
    (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ (given m) :=
  ((bigSep_mono fun c _ => make_invs m c).trans (bigSep_fupd _ _)).trans (BI.fupd_mono (collect m))

/-- A device's start, from what it was given, the levels and its rights. -/
theorem start_made (c : Dev nD) :
    iprop(Pipeline.unscopedRestP Pipeline.Prefetch.none cfg0.spec c (fun b => m ((c : Thread nD τ).loc b)) ∗ levAts L lv
        ∗ Pipeline.launchCred owed0 c ∗ prngReg c (ρ c) ∗ given m c)
      ⊢ |={Set.univ}=> iprop(start m c ∗ emp) := by
  iintro ⟨-, Hlev, Hcr, -, HG⟩
  ihave Hc := (rights (F := F) c) $$ Hcr
  icases Hc with ⟨HA, HB, HT⟩
  unfold given payToks
  icases HG with ⟨%K, ⟨HI, HR⟩, ⟨Ha, Hb, Ht⟩, Hp⟩
  imodintro
  isplitl
  · unfold start records held
    iexists K
    isplitl [HI HR Hlev]
    · isplitl [HI]; · iexact HI
      isplitl [HR] <;> iassumption
    isplitl [Ha]; · iexact Ha
    isplitl [Hb]; · iexact Hb
    isplitl [HA]; · iexact HA
    isplitl [HB]; · iexact HB
    isplitl [Ht]; · iexact Ht
    isplitl [HT]; · iexact HT
    iexact Hp
  · iempintro

theorem at_begin (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩
  iexact Hs

theorem at_end (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = allZero c from rfl, scopedRest0_eq, ← sems_eq]
  iintro ⟨Hos, Hus⟩
  isplitl [Hus]; · iexact Hus
  isplitl [Hos]; · iexact Hos
  iempintro

/-- The waits for the staging copies are allowed, whatever is owed. -/
theorem stage_waits (c : Dev nD) : (levAts L lv : sProp 𝕄) ⊢ Pipeline.cellsWaits cfgs (dats m) () 0 c :=
  Pipeline.cellsWaits_intro cfgs (dats m) () 0 c fun w s t => by
    have hq : lv ((c : Thread nD τ), .dma (((cfgs 0).win w).sem s)) () ≤ 0 := (lv_stage c _ (by fin_cases w <;> fin_cases s <;> decide)).le
    rcases t with ⟨_ | _, ht⟩
    · exact mayWait c (St.init c) _ 0 hq (Or.inr (by decide)) (Or.inr (by decide)) fun t _ => Nat.lt_trans Nat.zero_lt_one (rank_pos _ _).1
    · show _ ⊢ MayWait (c : Thread nD τ) _ () 0
      rw [MayWait_zero]
      iintro -
      iempintro

/-! ## The run -/

/-- The arrays' contents after the run. -/
def finalA (c : Dev nD) (w : Fin cfg0.W) : Buf (Elt F) ((cfg0.win w).arr.view.loc (c : Thread nD τ)) := (dats m 0 c).arrAt w cfg0.N

/-- From any memory with all semaphores at zero, on sixteen devices: the program ends, each array at its final contents
    and every semaphore at zero. -/
theorem run_arrays : θ_run defs (onTc (τ := τ) (main (F := F))) (begin0 m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := obligation m) (hne := fun w => by fin_cases w <;> exact Nat.succ_pos _) (harr := arr_whole0) (hstage := stage_whole0) (hshare := share_eq m)
    (hdistinct := winFacts0.arr_inj)
    (O₀ := owed0) (howed₀ := fun _ => rfl) (howedN := fun _ => rfl)
    (L := L) (lv := lv) (hL := L_of_ne) (hwaits := stage_waits m)
    (G := dealt m) (G' := given m) (u₀ := ghost0)
    (hu₀ := by
      unfold ghost0
      iintro Hu
      ihave H := (ownU_pair _ _) $$ Hu
      icases H with ⟨HP, HX⟩
      imod (deal m) $$ HX with HG
      imodintro
      isplitl [HP] <;> iassumption)
    (hglob := all_made m)
    (hA := fun _ _ => rfl) (hpf := fun _ k => k.elim0)
    (X := start m) (Y := fun c => unscopedSems0 c) (Z := fun _ => iprop(emp))
    (hX := start_made m ρ) (hin := at_begin m) (hout := at_end m)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr; · ipureintro; exact h
      iexact HSI)
    (hQ := fun _ h hs => ⟨fun c w => (h c).1 w, sem_eq_zero hs fun c => (h c).2.2⟩)

end Cert.KernelIdeal.Gather

end
-- ==== Proof.Values.lean ====
/-
What the runs leave: the kernel's result is the whole array on every device, the inputs unchanged; the reference
returns its argument.
-/
module

public import proofs.«01_k».proof.Defs
public import proofs.«01_k».proof.Proof.Launch
public import proofs.«01_k».proof.Proof.Gen.Kernel
public import proofs.«01_k».proof.Proof.Gen.ReferenceIdeal
public import Idealize.ShloMosaic.Lib.StableHlo.Run

@[expose] public section

set_option maxRecDepth 10000

noncomputable section

namespace Cert.KernelIdeal.Gather

open Cert.KernelIdeal Cert.KernelIdeal.Gen
open Idealize.ShloMosaic
open Idealize.ShloMosaic.TcCoe
open Idealize.ShloMosaic.Pipeline (Dat)
open Idealize.SL.Sem

section
variable {F : FTy → Type} [FloatOps F]
variable (m : (ℓ : Loc nD τ sig) → Buf (Elt F) ℓ) (ρ : Dev nD → PrngReg)

/-- A device's input as its staging buffer gets it is the array itself. -/
theorem xin_eq (c : Dev nD) : xin m c = m ((c : Thread nD τ).loc main_arg0) :=
  Memref.read_access_unit_zero (Elt F) main_arg0 (funext fun a => by fin_cases a <;> rfl) _ _

/-- The input's array is never written. -/
theorem final_arg (c : Dev nD) : finalA m c (0 : Fin 2) = m ((c : Thread nD τ).loc main_arg0) :=
  (dats (F := F) m 0 c).arrAt_in (0 : Fin 2) rfl _

/-- The output's array is what the body left in its staging buffer. -/
theorem final_out (c : Dev nD) : finalA m c (1 : Fin 2) = final (xin m) c := by
  unfold finalA
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  exact Memref.write_access_unit_zero_univ (Elt F) main_v1 (funext fun a => by fin_cases a <;> rfl) _ _ _

/-- The run: from any memory with all semaphores at zero, the program ends; each device's result is the gathered
    contents, its input as it was, and every semaphore at zero. -/
theorem run_main : θ_run defs (onTc (τ := τ) (main (F := F))) ⟨m, fun _ => 0, ρ⟩
    (fun r => (∀ c : Dev nD, r.2.mem ((c : Thread nD τ).loc main_v1) = final (xin m) c ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (final_out m c), (h.1 c (0 : Fin 2)).trans (final_arg m c)⟩, h.2⟩) (run_arrays m ρ)

end

/-! ## The whole array -/

/-- A strip of the gathered output is from a device of the strip's block. -/
theorem org_block : ∀ (c : Dev nD) (k : Fin 32), (org c k).val % 4 = k.val / 8 := by decide +kernel

theorem block_row : ∀ d : Dev nD, Layout.meshLin [2, 2, 4] d.val [2] = d.val % 4 := by decide +kernel

/-- Where every device's input is its block of the whole array `X`, what a device gathers is `X`. -/
theorem final_whole {F : FTy → Type} (xs : Dev nD → InBuf F) (X : OutBuf F)
    (h : ∀ c : Dev nD, xs c = Layout.blockN ⟨2, ![512, 512]⟩ ⟨2, ![2048, 512]⟩ (Layout.meshBlock [2, 2, 4] ![[2], []] c) X) (c : Dev nD) : final xs c = X := by
  funext i
  have hlt : (i 0).val < 2048 := (i 0).isLt
  have hb := org_block c ⟨(i 0).val / 64, by omega⟩
  unfold final
  rw [h, Layout.blockN_apply]
  refine congrArg X (funext fun a => Fin.ext ?_)
  rw [Layout.TilesN.idx_val]
  fin_cases a
  · show Layout.meshLin [2, 2, 4] (org c ((i 0).val / 64)).val [2] * 512 + (i 0).val % 512 = (i 0).val
    rw [block_row, hb]
    show (i 0).val / 64 / 8 * 512 + (i 0).val % 512 = (i 0).val
    omega
  · show 0 * 512 + (i 1).val = (i 1).val
    omega

/-! ## The claims -/

/-- The frame, for any float values. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c.tc : Thread nD τ).loc main_arg0) = m ((c.tc : Thread nD τ).loc main_arg0)) ∧ r.2.sem = fun _ => 0) :=
  (θ_run defs _ _).mono (fun _ h => ⟨fun c => (h.1 c).2, h.2⟩) (run_main m ρ)

/-- The two programs' kernels are the same at every label, -/
theorem bodies_same : (Cert.Kernel.defs₀ (F := Bits) : Defs nD τ sig (Elt Bits) Λ₀) = defs₀ (F := Bits) := by
  refine congrArg Defs.onTc ?_
  funext ℓ x
  obtain ⟨n, hn⟩ := ℓ
  cases n with
  | zero => rfl
  | succ n => exact absurd hn (by show ¬(n + 1 < 1); omega)
/-- and so are their tables. -/
theorem tables_same : (Cert.Kernel.defs (F := Bits) : Defs nD τ sig (Elt Bits) (Pipeline.Sig Λ₀ (Fin 1) fun p => (pcfgs (F := Bits) p).Adm)) = defs (F := Bits) :=
  congrArg (Pipeline.defs pcfgs) bodies_same

/-- The kernel's frame: the run read at the bit-exact floats. -/
theorem frame_kernel : Cert.quiescent_Kernel := fun m ρ _ => by
  have h := run_frame (F := Bits) m ρ
  rw [← tables_same] at h
  exact h

/-- The idealization's frame: the same run at exact values. -/
theorem frame_ideal : Cert.quiescent_KernelIdeal := fun m ρ _ => run_frame (F := Ideal) m ρ

end Cert.KernelIdeal.Gather

namespace Cert.ReferenceIdeal.Gather

open Cert.ReferenceIdeal Cert.ReferenceIdeal.Gen
open Idealize.ShloMosaic
open Idealize.ShloMosaic.TcCoe
open Idealize.SL.Sem

/-- The reference's run: no operation, so every buffer stays as it was. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ (c : Dev nD) (b : Ref sig .tc), r.2.mem ((c.tc : Thread nD τ).loc b) = m ((c.tc : Thread nD τ).loc b)) :=
  StableHlo.run_seq (by decide) (by decide) defs main (fun _ => []) (fun _ => rfl) (fun _ => trivial) m ρ

/-- The reference's frame. -/
theorem frame_reference : Cert.quiescent_ReferenceIdeal := fun m ρ _ =>
  (θ_run (defs (F := Ideal)) _ _).mono (fun r h => ⟨fun c => h c main_arg0, sem_eq_zero_of_no_sems (by decide) r.2⟩) (run_reference m ρ)

end Cert.ReferenceIdeal.Gather

namespace Cert.KernelIdeal.Gather

open Cert.KernelIdeal Cert.KernelIdeal.Gen
open Idealize.ShloMosaic
open Idealize.ShloMosaic.TcCoe
open Idealize.SL.Sem

/-- The value: where each device's input is its block of the reference's argument, each device ends with the
    reference's result. -/
theorem same_value : Cert.algebraic_KernelIdeal_ReferenceIdeal := fun m ρ m' ρ' _ hm => by
  refine ⟨m' (((0 : Dev Cert.ReferenceIdeal.nD).tc : Thread Cert.ReferenceIdeal.nD Cert.ReferenceIdeal.τ).loc Cert.ReferenceIdeal.main_arg0), ?_, ?_⟩
  · exact (θ_run defs _ _).mono
      (fun _ h c => ⟨(h.1 c).1.trans (final_whole (F := Ideal) (xin m) _ (fun e => (xin_eq m e).trans (hm e)) c), (h.1 c).2⟩) (run_main (F := Ideal) m ρ)
  · exact (θ_run Cert.ReferenceIdeal.defs _ _).mono (fun _ h => ⟨h 0 _, h 0 _⟩) (Cert.ReferenceIdeal.Gather.run_reference m' ρ')

end Cert.KernelIdeal.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Values
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  Cert.KernelIdeal.Gather.frame_kernel, Cert.KernelIdeal.Gather.frame_ideal, Cert.ReferenceIdeal.Gather.frame_reference, trivial,
  Cert.KernelIdeal.Gather.same_value⟩

end Cert.Proof

end
